-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x32x512x64 : Shape := ⟨4, ![2, 32, 512, 64]⟩
abbrev S64x512x64 : Shape := ⟨3, ![64, 512, 64]⟩
abbrev S1x768x512 : Shape := ⟨3, ![1, 768, 512]⟩
abbrev S2x768x512 : Shape := ⟨3, ![2, 768, 512]⟩
abbrev S4x2x768x512 : Shape := ⟨4, ![4, 2, 768, 512]⟩
abbrev S512x512 : Shape := ⟨2, ![512, 512]⟩
abbrev S3 : Shape := ⟨1, ![3]⟩
abbrev S1x2x768x512 : Shape := ⟨4, ![1, 2, 768, 512]⟩
abbrev S1 : Shape := ⟨1, ![1]⟩
abbrev S1x1x768x512 : Shape := ⟨4, ![1, 1, 768, 512]⟩
abbrev S1x512x768 : Shape := ⟨3, ![1, 512, 768]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩

abbrev nBuf : Space → Nat
  | .hbm => 42
  | .vmem => 7
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S8x512x32x64, .f32⟩
  | .hbm, ⟨3, _⟩ => ⟨S8x512x32x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x32x64, .f32⟩
  | .hbm, ⟨33, _⟩ => ⟨S2x32x512x64, .f32⟩
  | .hbm, ⟨34, _⟩ => ⟨S64x512x64, .f32⟩
  | .hbm, ⟨35, _⟩ => ⟨S2x32x512x64, .f32⟩
  | .hbm, ⟨36, _⟩ => ⟨S64x512x64, .f32⟩
  | .hbm, ⟨37, _⟩ => ⟨S768x512, .f32⟩
  | .hbm, ⟨38, _⟩ => ⟨S1x768x512, .f32⟩
  | .hbm, ⟨39, _⟩ => ⟨S1x768x512, .f32⟩
  | .hbm, ⟨40, _⟩ => ⟨S2x768x512, .f32⟩
  | .hbm, ⟨41, _⟩ => ⟨S2x512x768, .f32⟩
  | .local _ .vmem, ⟨0, _⟩ => ⟨S2x512x768, .f32⟩
  | .local _ .vmem, ⟨1, _⟩ => ⟨S2x768x512, .f32⟩
  | .local _ .vmem, ⟨2, _⟩ => ⟨S64x512x64, .f32⟩
  | .local _ .vmem, ⟨3, _⟩ => ⟨S64x512x64, .f32⟩
  | .local _ .vmem, ⟨4, _⟩ => ⟨S2x512x768, .f32⟩
  | .local _ .vmem, ⟨5, _⟩ => ⟨S4x2x768x512, .f32⟩
  | .local _ .vmem, ⟨6, _⟩ => ⟨S512x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_35 : BitVec 32 := 1#32
  let v78 : BitVec 32 := Scalar.muli v7 c1_i32_35
  let v79 : BitVec 32 := Scalar.addi c0_i32_36 v78
  v79.toNat
def k0_off1 (d0 : Dev nD) (c0_i32_56 : BitVec 32) (c0_i32_43 : BitVec 32) (c0_i32_57 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v88 : BitVec 32 := Scalar.subi v2 c0_i32_43
  let c4_i32_44 : BitVec 32 := 4#32
  let v89 : BitVec 32 := Scalar.addi v88 c4_i32_44
  let c4_i32_45 : BitVec 32 := 4#32
  let v90 : BitVec 32 := Scalar.remsi v89 c4_i32_45
  let c8_i32 : BitVec 32 := 8#32
  let v98 : BitVec 32 := Scalar.muli v90 c8_i32
  let v99 : BitVec 32 := Scalar.addi c0_i32_56 v98
  let v100 : BitVec 32 := Scalar.addi v99 c0_i32_57
  let v102 : Index := Scalar.indexCast v100
  let c0_58 : Index := 0#32
  let c0_59 : Index := 0#32
  ![v102.toNat, 0, 0]
def k0_dev4 (d0 : Dev nD) : Nat :=
  let c0_i32_328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_327 : BitVec 32 := 1#32
  let v573 : BitVec 32 := Scalar.muli v7 c1_i32_327
  let v574 : BitVec 32 := Scalar.addi c0_i32_328 v573
  v574.toNat
def k0_dev5 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_639 : BitVec 32 := 1#32
  let v1074 : BitVec 32 := Scalar.muli v7 c1_i32_639
  let v1075 : BitVec 32 := Scalar.addi c0_i32_640 v1074
  v1075.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x2048, .f32⟩
  | .hbm, ⟨2, _⟩ => ⟨S8x512x32x64, .f32⟩
  | .hbm, ⟨3, _⟩ => ⟨S8x512x32x64, .f32⟩
  | .hbm, ⟨4, _⟩ => ⟨S2048x768, .f32⟩
  | .hbm, ⟨5, _⟩ => ⟨S8x512x2048, .f32⟩
  | .hbm, ⟨6, _⟩ => ⟨S8x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S8x32x512x512, .f32⟩
  | .hbm, ⟨85, _⟩ => ⟨S_, .f32⟩
  | .hbm, ⟨86, _⟩ => ⟨S8x32x512x512, .f32⟩
  | .hbm, ⟨87, _⟩ => ⟨S8x32x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S8x32x512x512, .i1⟩
  | .hbm, ⟨92, _⟩ => ⟨S8x32x512x512, .f32⟩
  | .hbm, ⟨93, _⟩ => ⟨S8x32x512x512, .f32⟩
  | .hbm, ⟨94, _⟩ => ⟨S_, .f32⟩
  | .hbm, ⟨95, _⟩ => ⟨S8x32x512, .f32⟩
  | .hbm, ⟨96, _⟩ => ⟨S8x32x512x1, .f32⟩
  | .hbm, ⟨97, _⟩ => ⟨S8x32x512x512, .f32⟩
  | .hbm, ⟨98, _⟩ => ⟨S8x32x512x512, .f32⟩
  | .hbm, ⟨99, _⟩ => ⟨S8x32x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S8x32x512, .f32⟩
  | .hbm, ⟨105, _⟩ => ⟨S8x32x512x1, .f32⟩
  | .hbm, ⟨106, _⟩ => ⟨S_, .f32⟩
  | .hbm, ⟨107, _⟩ => ⟨S_, .f32⟩
  | .hbm, ⟨108, _⟩ => ⟨S8x32x512x1, .i1⟩
  | .hbm, ⟨109, _⟩ => ⟨S8x32x512x1, .f32⟩
  | .hbm, ⟨110, _⟩ => ⟨S8x32x512x1, .f32⟩
  | .hbm, ⟨111, _⟩ => ⟨S8x32x512x512, .f32⟩
  | .hbm, ⟨112, _⟩ => ⟨S8x32x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S8x32x512x512, .i1⟩
  | .hbm, ⟨117, _⟩ => ⟨S8x32x512x512, .f32⟩
  | .hbm, ⟨118, _⟩ => ⟨S8x32x512x512, .f32⟩
  | .hbm, ⟨119, _⟩ => ⟨S8x32x64x512, .f32⟩
  | .hbm, ⟨120, _⟩ => ⟨S8x512x32x64, .f32⟩
  | .hbm, ⟨121, _⟩ => ⟨S8x512x2048, .f32⟩
  | .hbm, ⟨122, _⟩ => ⟨S8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Struct.lean ====
/- The kernel's body as a program of repeated steps: one step per attention head, eight heads per
   batch, two batches per phase and four phases, one for each weight pack that travels round the
   ring. `body_eq` says that the printed body is this program. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Facts₀

variable {F : FTy → Type} [FloatOps F]

/-! ## The buffers and semaphores -/

/-- The two batches of input rows of this device. -/
abbrev aX : Memref sig .tc .vmem S2x512x768 .f32 := Memref.whole cc0_stg0_0
/-- This device's pair of weight blocks: the query weights and the transposed output weights. -/
abbrev aW : Memref sig .tc .vmem S2x768x512 .f32 := Memref.whole cc0_stg1_0
/-- The keys of two batches times 32 heads. -/
abbrev aK : Memref sig .tc .vmem S64x512x64 .f32 := Memref.whole cc0_stg2_0
/-- The values of two batches times 32 heads. -/
abbrev aV : Memref sig .tc .vmem S64x512x64 .f32 := Memref.whole cc0_stg3_0
/-- The two batches of output rows. -/
abbrev aO : Memref sig .tc .vmem S2x512x768 .f32 := Memref.whole cc0_stg4_0
/-- The four slots of weight pairs. -/
abbrev aP : Memref sig .tc .vmem S4x2x768x512 .f32 := Memref.whole cc0_scratch0
/-- The eight heads' outputs of one batch, side by side. -/
abbrev aC : Memref sig .tc .vmem S512x512 .f32 := Memref.whole cc0_scratch1

variable [Facts]

theorem inbSlot (s : Fin 4) : ∀ a, (![s.val, 0, 0, 0] : Fin 4 → Nat) a + S1x2x768x512.size a ≤ S4x2x768x512.size a := by
  revert s; decide +kernel
theorem inbWeight (s : Fin 4) (k : Fin 2) :
    ∀ a, (![s.val, k.val, 0, 0] : Fin 4 → Nat) a + S1x1x768x512.size a ≤ S4x2x768x512.size a := by
  revert s k; decide +kernel
theorem inbRow (b : Fin 2) : ∀ a, (![b.val, 0, 0] : Fin 3 → Nat) a + S1x512x768.size a ≤ S2x512x768.size a := by
  revert b; decide +kernel
theorem inbHead (e : Fin 8) : ∀ a, (![0, 64 * e.val] : Fin 2 → Nat) a + S512x64.size a ≤ S512x512.size a := by
  revert e; decide +kernel
theorem inbSem (h : Fin 3) : ∀ a, (![h.val] : Fin 1 → Nat) a + S1.size a ≤ S3.size a := by
  revert h; decide +kernel
theorem slicesHead (e : Fin 8) : S512x512.Slices ![0, 64 * e.val] S512x64 := by
  revert e; decide +kernel

/-- Slot `s` of the weight pairs, as the copies name it. -/
abbrev slot (s : Fin 4) : Memref sig .tc .vmem S2x768x512 .f32 :=
  (aP.slice (Rect.unit (s := S4x2x768x512) ![s.val, 0, 0, 0] S1x2x768x512.size (inbSlot s)) (fun _ => rfl)).squeeze
    S2x768x512 squeezes_S1x2x768x512_S2x768x512
/-- The semaphore of the handshake. -/
abbrev semB : Sem sig := (SemArray.scalar (sig.barrier 0 rfl) : Sems sig S_).sem
/-- The semaphore that the sending side of phase `h`'s copy raises. -/
abbrev semS (h : Fin 3) : DmaSem sig :=
  ((cc0_scratch2.slice (Rect.unit (s := S3) ![h.val] S1.size (inbSem h))).squeeze S_ squeezes_S1_S_).sem
/-- The semaphore that the receiving side of phase `h`'s copy raises. -/
abbrev semR (h : Fin 3) : DmaSem sig :=
  ((cc0_scratch3.slice (Rect.unit (s := S3) ![h.val] S1.size (inbSem h))).squeeze S_ squeezes_S1_S_).sem

/-! ## The values -/

/-- Which positions attend to which. -/
abbrev mask : IVec S512x512 1 :=
  have v18 : IVec S512x512 32 := iota .tc S512x512 32 [0] iota_S512x512_d0_w32
  have v28 : BitVec 1 := Scalar.cmpi .sgt 64#32 0#32
  Gen.k0_pay11 (Gen.k0_pay8 v18 64#32 Gen.k0_pay4 Gen.k0_pay5 v28) (Gen.k0_pay9 v18 64#32 Gen.k0_pay4 Gen.k0_pay5 v28) Gen.k0_pay10

/-- The queries of one batch: its rows times a block of the query weights. -/
def queries (x : Vec F S1x512x768 .f32) (wq : FVec F S768x512 .f32) : FVec F S512x512 .f32 :=
  matmul dot_S512x768_S768x512_S512x512_1_0_0_1_n_n none (shapeCast S512x768 x shapeCasts_S1x512x768_S512x768) wq
    (constant S512x512 .f32 0x00000000#32)

/-- One head: 64 columns of the queries against its keys and values. -/
def headVal (qb : FVec F S512x512 .f32) (e : Fin 8) (k v : Vec F S1x512x64 .f32) : FVec F S512x64 .f32 :=
  Gen.k0_pay16 mask (extractStridedSlice S512x64 ![0, 64 * e.val] qb (slicesHead e)) k v

/-- One head block's share of the output rows. -/
def project (wo : FVec F S768x512 .f32) (ctx : Vec F S512x512 .f32) : FVec F S512x768 .f32 :=
  matmul dot_S512x512_S768x512_S512x768_1_1_0_0_n_n none ctx wo (constant S512x768 .f32 0x00000000#32)

/-- The share written by the first phase. -/
def firstOut (wo : FVec F S768x512 .f32) (ctx : Vec F S512x512 .f32) : FVec F S1x512x768 .f32 :=
  shapeCast S1x512x768 (project wo ctx) shapeCasts_S512x768_S1x512x768
/-- The share added by a later phase. -/
def nextOut (wo : FVec F S768x512 .f32) (ctx : Vec F S512x512 .f32) (old : Vec F S1x512x768 .f32) : FVec F S1x512x768 .f32 :=
  shapeCast S1x512x768 (addf (shapeCast S512x768 old shapeCasts_S1x512x768_S512x768) (project wo ctx))
    shapeCasts_S512x768_S1x512x768

/-! ## The steps -/

variable (F) in
/-- The programs of this file. -/
abbrev Run := Prog (TpuEff nD τ sig (Elt F) Λ₀ .tc)

/-- One head of batch `b` in phase `h`: its 64 columns of `aC`. -/
def headStep (c : Dev nD) (h : Fin 4) (b : Fin 2) (qb : FVec F S512x512 .f32) (e : Fin 8) : Run F PUnit := do
  let k : Vec F S1x512x64 .f32 ← Prog.lift (.load aK (Rect.unit (s := S64x512x64)
    (k0_off1 c (BitVec.ofNat 32 (32 * b.val)) (BitVec.ofNat 32 h.val) (BitVec.ofNat 32 e.val)) S1x512x64.size
    (k0_off1_inb c b h e)).toLoadRect (View.loadsAt_vmem h_S1x512x64))
  let v : Vec F S1x512x64 .f32 ← Prog.lift (.load aV (Rect.unit (s := S64x512x64)
    (k0_off1 c (BitVec.ofNat 32 (32 * b.val)) (BitVec.ofNat 32 h.val) (BitVec.ofNat 32 e.val)) S1x512x64.size
    (k0_off1_inb c b h e)).toLoadRect (View.loadsAt_vmem h_S1x512x64))
  let _ : Vec F S512x64 .f32 ← Prog.lift (.load aC (Rect.unit (s := S512x512) ![0, 64 * e.val] S512x64.size
    (inbHead e)).toLoadRect (View.loadsAt_vmem h_S512x64))
  Prog.lift (.store aC (Rect.unit (s := S512x512) ![0, 64 * e.val] S512x64.size (inbHead e)) (headVal qb e k v)
    Finset.univ (View.stores_vmem_bits_univ h_S512x64 rfl) (.inl rfl))

/-- The first phase's write of batch `b`'s output rows. -/
def outFirst (b : Fin 2) (wo : FVec F S768x512 .f32) : Run F PUnit := do
  let ctx : Vec F S512x512 .f32 ← Prog.lift (.load aC (Rect.unit (s := S512x512) ![0, 0] S512x512.size
    inb_S512x512_S512x512_0_0).toLoadRect (View.loadsAt_vmem h_S512x512))
  let _ : Vec F S1x512x768 .f32 ← Prog.lift (.load aO (Rect.unit (s := S2x512x768) ![b.val, 0, 0] S1x512x768.size
    (inbRow b)).toLoadRect (View.loadsAt_vmem h_S1x512x768))
  Prog.lift (.store aO (Rect.unit (s := S2x512x768) ![b.val, 0, 0] S1x512x768.size (inbRow b)) (firstOut wo ctx)
    Finset.univ (View.stores_vmem_bits_univ h_S1x512x768 rfl) (.inl rfl))

/-- A later phase's addition to batch `b`'s output rows. -/
def outNext (b : Fin 2) (wo : FVec F S768x512 .f32) : Run F PUnit := do
  let ctx : Vec F S512x512 .f32 ← Prog.lift (.load aC (Rect.unit (s := S512x512) ![0, 0] S512x512.size
    inb_S512x512_S512x512_0_0).toLoadRect (View.loadsAt_vmem h_S512x512))
  let old : Vec F S1x512x768 .f32 ← Prog.lift (.load aO (Rect.unit (s := S2x512x768) ![b.val, 0, 0] S1x512x768.size
    (inbRow b)).toLoadRect (View.loadsAt_vmem h_S1x512x768))
  let _ : Vec F S1x512x768 .f32 ← Prog.lift (.load aO (Rect.unit (s := S2x512x768) ![b.val, 0, 0] S1x512x768.size
    (inbRow b)).toLoadRect (View.loadsAt_vmem h_S1x512x768))
  Prog.lift (.store aO (Rect.unit (s := S2x512x768) ![b.val, 0, 0] S1x512x768.size (inbRow b)) (nextOut wo ctx old)
    Finset.univ (View.stores_vmem_bits_univ h_S1x512x768 rfl) (.inl rfl))

/-- Batch `b` of phase `h`: its queries, its eight heads, and what `out` does with them. -/
def batchStep (c : Dev nD) (h : Fin 4) (wq : FVec F S768x512 .f32) (out : Run F PUnit) (b : Fin 2) : Run F PUnit := do
  let x : Vec F S1x512x768 .f32 ← Prog.lift (.load aX (Rect.unit (s := S2x512x768) ![b.val, 0, 0] S1x512x768.size
    (inbRow b)).toLoadRect (View.loadsAt_vmem h_S1x512x768))
  headStep c h b (queries x wq) 0
  headStep c h b (queries x wq) 1
  headStep c h b (queries x wq) 2
  headStep c h b (queries x wq) 3
  headStep c h b (queries x wq) 4
  headStep c h b (queries x wq) 5
  headStep c h b (queries x wq) 6
  headStep c h b (queries x wq) 7
  out

/-- The loads of the two members of the weight pair in slot `h`, handed to `k`. -/
def loadPair (h : Fin 4) (k : Vec F S1x1x768x512 .f32 → Vec F S1x1x768x512 .f32 → Run F PUnit) : Run F PUnit := do
  let q : Vec F S1x1x768x512 .f32 ← Prog.lift (.load aP (Rect.unit (s := S4x2x768x512) ![h.val, 0, 0, 0]
    S1x1x768x512.size (inbWeight h 0)).toLoadRect (View.loadsAt_vmem h_S1x1x768x512))
  let o : Vec F S1x1x768x512 .f32 ← Prog.lift (.load aP (Rect.unit (s := S4x2x768x512) ![h.val, 1, 0, 0]
    S1x1x768x512.size (inbWeight h 1)).toLoadRect (View.loadsAt_vmem h_S1x1x768x512))
  k q o

/-- The work of phase `h`: both batches against the weight pair in slot `h`. -/
def phaseWork (c : Dev nD) (h : Fin 4) (out : FVec F S768x512 .f32 → Fin 2 → Run F PUnit) : Run F PUnit :=
  loadPair h fun q o => do
    batchStep c h (Gen.k0_pay12 q) (out (Gen.k0_pay13 o) 0) 0
    batchStep c h (Gen.k0_pay12 q) (out (Gen.k0_pay13 o) 1) 1

/-- The copy of slot `h` into slot `h + 1` of device `n`. -/
def send (n : Dev nD) (h : Fin 3) : Run F PUnit :=
  Prog.lift (.enqueueDma (slot h.castSucc) (.remote (Dev.tc n) (slot h.succ) (.dma (semS h))) (.dma (semR h))
    ((View.wordExact_bits rfl).reshape _ _) ((View.wordExact_bits rfl).reshape _ _) ⟨⟨rfl, Or.inl rfl⟩, trivial⟩)

/-- The waits of phase `h`: this device's copy has left, and its neighbour's has landed. -/
def waits (h : Fin 3) : Run F PUnit := do
  Prog.lift (.waitDma2 (semS h) (slot h.succ) (slot h.castSucc)
    ((View.wordExact_bits rfl).reshape _ _) ((View.wordExact_bits rfl).reshape _ _))
  Prog.lift (.waitDma2 (semR h) (slot h.castSucc) (slot h.succ)
    ((View.wordExact_bits rfl).reshape _ _) ((View.wordExact_bits rfl).reshape _ _))

/-- The handshake with both neighbours, before anything is sent. -/
def handshake (left right : Dev nD) : Run F PUnit := do
  semSignalWord left semB 1#32
  semSignalWord right semB 1#32
  semWaitWord semB 2#32

/-- The device's own weight pair goes into slot 0. -/
def fillSlot : Run F PUnit := do
  let w : Vec F S2x768x512 .f32 ← Prog.lift (.load aW (Rect.unit (s := S2x768x512) ![0, 0, 0] S2x768x512.size
    inb_S2x768x512_S2x768x512_0_0_0).toLoadRect (View.loadsAt_vmem h_S2x768x512))
  let _ : Vec F S1x2x768x512 .f32 ← Prog.lift (.load aP (Rect.unit (s := S4x2x768x512) ![0, 0, 0, 0]
    S1x2x768x512.size (inbSlot 0)).toLoadRect (View.loadsAt_vmem h_S1x2x768x512))
  Prog.lift (.store aP (Rect.unit (s := S4x2x768x512) ![0, 0, 0, 0] S1x2x768x512.size (inbSlot 0)) (Gen.k0_pay3 w)
    Finset.univ (View.stores_vmem_bits_univ h_S1x2x768x512 rfl) (.inl rfl))

/-- The whole body on device `c`, its neighbours' numbers as the program computes them. -/
def prog : Run F PUnit := do
  let c : Dev nD ← Prog.lift .deviceId
  handshake ⟨k0_dev1 c, k0_dev1_lt c⟩ ⟨k0_dev2 c, k0_dev2_lt c⟩
  fillSlot
  send ⟨k0_dev3 c, k0_dev3_lt c⟩ 0
  phaseWork c 0 (fun o b => outFirst b o)
  waits 0
  send ⟨k0_dev4 c, k0_dev4_lt c⟩ 1
  phaseWork c 1 (fun o b => outNext b o)
  waits 1
  send ⟨k0_dev5 c, k0_dev5_lt c⟩ 2
  phaseWork c 2 (fun o b => outNext b o)
  waits 2
  phaseWork c 3 (fun o b => outNext b o)

/-- The printed body is that program. -/
theorem body_eq (t : Fin cfg0.N) : Gen.bodyAt0 (F := F) t = prog := by
  rewrite [Gen.fin_N0 t]
  chain_rfl

end Cert.KernelIdeal.Attn
-- ==== Proof.Values.lean ====
/- What one device computes, as functions of arrays: the blocks it reads, one batch's heads, and the
   output rows after each phase; and the reads and writes of whole buffers through rectangles. -/
module

public import proofs.«01_k».proof.Proof.Struct
public import Idealize.ShloMosaic.Lib.ValueIdxCore
public import Idealize.ShloMosaic.Lib.WritesUnit
public import Idealize.ShloMosaic.Lib.VecWindow
public import Idealize.ShloMosaic.Lib.Pointwise

@[expose] public section

set_option maxRecDepth 16384

noncomputable section

namespace Cert.KernelIdeal.Attn

open Idealize.ShloMosaic Idealize.ShloMosaic.TcCoe Idealize.ShloMosaic.Pointwise
open Idealize.SL Idealize.SL.Sem
open Cert.KernelIdeal Cert.KernelIdeal.Facts₀

variable {F : FTy → Type} [FloatOps F] [Facts]

/-! ## Devices round the ring -/

/-- The device to the right. -/
def nxt (c : Dev nD) : Dev nD := ⟨(c.val + 1) % 4, Nat.mod_lt _ (by decide)⟩
/-- The device to the left. -/
def prv (c : Dev nD) : Dev nD := ⟨(c.val + 3) % 4, Nat.mod_lt _ (by decide)⟩
/-- The device whose weight pair is in slot `s` of device `c`: `s` places to the left. -/
def src (c : Dev nD) (s : Fin 4) : Dev nD := ⟨(c.val + 4 - s.val) % 4, Nat.mod_lt _ (by decide)⟩

theorem nxt_prv (c : Dev nD) : nxt (prv c) = c := by revert c; decide
theorem prv_nxt (c : Dev nD) : prv (nxt c) = c := by revert c; decide
theorem src_zero (c : Dev nD) : src c 0 = c := by revert c; decide
/-- One place further round, one slot further on. -/
theorem src_nxt (c : Dev nD) (h : Fin 3) : src (nxt c) h.succ = src c h.castSucc := by revert c h; decide

/-! ## The blocks -/

/-- Head `n` of the keys or values. -/
def headOf (K : Vec F S64x512x64 .f32) (n : Fin 64) : Vec F S1x512x64 .f32 := fun j => K (ix3 n (j 1) (j 2))
/-- Batch `b` of the input or output rows. -/
def rowOf (X : Vec F S2x512x768 .f32) (b : Fin 2) : Vec F S1x512x768 .f32 := fun j => X (ix3 b (j 1) (j 2))
/-- Member `k` of a weight pair. -/
def weightOf (W : Vec F S2x768x512 .f32) (k : Fin 2) : Vec F S1x1x768x512 .f32 := fun j => W (ix3 k (j 2) (j 3))
/-- The rows `O` with batch `b` replaced by `v`. -/
def putRow (O : Vec F S2x512x768 .f32) (b : Fin 2) (v : Vec F S1x512x768 .f32) : Vec F S2x512x768 .f32 :=
  fun j => if (j 0).val = b.val then v (ix3 0 (j 1) (j 2)) else O j
/-- The columns `C` with head `e`'s 64 columns replaced by `v`. -/
def putHead (C : Vec F S512x512 .f32) (e : Fin 8) (v : Vec F S512x64 .f32) : Vec F S512x512 .f32 :=
  fun j => if (j 1).val / 64 = e.val then v (ix2 (j 0) ⟨(j 1).val % 64, Nat.mod_lt _ (by decide)⟩) else C j
/-- Eight heads side by side. -/
def joinHeads (v : Fin 8 → Vec F S512x64 .f32) : Vec F S512x512 .f32 :=
  fun j => v ⟨(j 1).val / 64, by have : (j 1).val < 512 := (j 1).isLt; omega⟩ (ix2 (j 0) ⟨(j 1).val % 64, Nat.mod_lt _ (by decide)⟩)

/-- All eight heads put in, whatever was there before. -/
theorem putHeads_eq (C : Vec F S512x512 .f32) (v : Fin 8 → Vec F S512x64 .f32) :
    putHead (putHead (putHead (putHead (putHead (putHead (putHead (putHead C 0 (v 0)) 1 (v 1)) 2 (v 2)) 3 (v 3)) 4 (v 4)) 5 (v 5))
      6 (v 6)) 7 (v 7) = joinHeads v := by
  funext j
  have hj : (j 1).val / 64 < 8 := by have : (j 1).val < 512 := (j 1).isLt; omega
  obtain ⟨e, he⟩ : ∃ e : Fin 8, (j 1).val / 64 = e.val := ⟨⟨_, hj⟩, rfl⟩
  have hJ : joinHeads v j = v e (ix2 (j 0) ⟨(j 1).val % 64, Nat.mod_lt _ (by decide)⟩) := by
    exact congrArg (fun e' => v e' _) (Fin.ext he : (⟨(j 1).val / 64, hj⟩ : Fin 8) = e)
  rw [hJ]
  unfold putHead
  rw [he]
  fin_cases e <;> rfl

/-- Which of the 64 key and value heads head `e` of batch `b` uses in phase `h`. -/
def headNo (c : Dev nD) (h : Fin 4) (b : Fin 2) (e : Fin 8) : Fin 64 :=
  ⟨32 * b.val + 8 * (src c h).val + e.val, by have := (src c h).isLt; have : nD = 4 := rfl; omega⟩

/-! ## One batch, one phase, the whole body -/

/-- The heads of batch `b` in phase `h`, side by side. -/
def ctxOf (c : Dev nD) (h : Fin 4) (K V : Vec F S64x512x64 .f32) (wq : FVec F S768x512 .f32) (X : Vec F S2x512x768 .f32)
    (b : Fin 2) : Vec F S512x512 .f32 :=
  joinHeads fun e => headVal (queries (rowOf X b) wq) e (headOf K (headNo c h b e)) (headOf V (headNo c h b e))

/-- The output rows after both batches' `upd`. -/
def phaseOf (c : Dev nD) (h : Fin 4) (K V : Vec F S64x512x64 .f32) (W : Vec F S2x768x512 .f32) (X : Vec F S2x512x768 .f32)
    (upd : FVec F S768x512 .f32 → Fin 2 → Vec F S512x512 .f32 → Vec F S2x512x768 .f32 → Vec F S2x512x768 .f32)
    (O : Vec F S2x512x768 .f32) : Vec F S2x512x768 .f32 :=
  upd (Gen.k0_pay13 (weightOf W 1)) 1 (ctxOf c h K V (Gen.k0_pay12 (weightOf W 0)) X 1)
    (upd (Gen.k0_pay13 (weightOf W 1)) 0 (ctxOf c h K V (Gen.k0_pay12 (weightOf W 0)) X 0) O)

/-- What the first phase does with a batch's heads. -/
def updFirst (wo : FVec F S768x512 .f32) (b : Fin 2) (C : Vec F S512x512 .f32) (O : Vec F S2x512x768 .f32) : Vec F S2x512x768 .f32 :=
  putRow O b (firstOut wo C)
/-- What a later phase does with them. -/
def updNext (wo : FVec F S768x512 .f32) (b : Fin 2) (C : Vec F S512x512 .f32) (O : Vec F S2x512x768 .f32) : Vec F S2x512x768 .f32 :=
  putRow O b (nextOut wo C (rowOf O b))

/-- The output rows of device `c` after the four phases, from every device's weight pair. -/
def outOf (c : Dev nD) (W : Dev nD → Vec F S2x768x512 .f32) (K V : Vec F S64x512x64 .f32) (X O : Vec F S2x512x768 .f32) :
    Vec F S2x512x768 .f32 :=
  phaseOf c 3 K V (W (src c 3)) X updNext (phaseOf c 2 K V (W (src c 2)) X updNext
    (phaseOf c 1 K V (W (src c 1)) X updNext (phaseOf c 0 K V (W (src c 0)) X updFirst O)))

/-- The four slots of device `c` when every weight pair has arrived. -/
def packs (W : Dev nD → Vec F S2x768x512 .f32) (c : Dev nD) : Vec F S4x2x768x512 .f32 :=
  fun j => W (src c (j 0)) (ix3 (j 1) (j 2) (j 3))

/-! ## Reads and writes through rectangles -/

/-- A load of one head. -/
theorem load_head (a : Memref sig .tc .vmem S64x512x64 .f32) (K : a.view.ty.Contents (Elt F)) (c : Dev nD) (h : Fin 4) (b : Fin 2) (e : Fin 8) :
    View.readAt (Elt F) a.view (Rect.unit (s := S64x512x64)
      (k0_off1 c (BitVec.ofNat 32 (32 * b.val)) (BitVec.ofNat 32 h.val) (BitVec.ofNat 32 e.val)) S1x512x64.size (k0_off1_inb c b h e)).toLoadRect K
      = headOf (a.view.read (Elt F) K) (headNo c h b e) := by
  funext j
  refine congrArg (a.view.read (Elt F) K) (funext fun i => Fin.ext ?_)
  show k0_off1 c (BitVec.ofNat 32 (32 * b.val)) (BitVec.ofNat 32 h.val) (BitVec.ofNat 32 e.val) i + 1 * (j i).val = _
  refine (congrArg (· + 1 * (j i).val) (congrFun (Gen.k0_off1_eq c b h e) i)).trans ?_
  have h0 : (j 0).val = 0 := by have : (j 0).val < 1 := (j 0).isLt; omega
  fin_cases i
  · show 32 * b.val + 8 * ((c.val + 4 - h.val) % 4) + e.val + 1 * (j 0).val = 32 * b.val + 8 * ((c.val + 4 - h.val) % 4) + e.val
    omega
  · show 0 + 1 * (j 1).val = (j 1).val
    omega
  · show 0 + 1 * (j 2).val = (j 2).val
    omega

/-- A load of one batch's rows. -/
theorem load_row (a : Memref sig .tc .vmem S2x512x768 .f32) (X : a.view.ty.Contents (Elt F)) (b : Fin 2) :
    View.readAt (Elt F) a.view (Rect.unit (s := S2x512x768) ![b.val, 0, 0] S1x512x768.size (inbRow b)).toLoadRect X
      = rowOf (a.view.read (Elt F) X) b := by
  funext j
  refine congrArg (a.view.read (Elt F) X) (funext fun i => Fin.ext ?_)
  show (![b.val, 0, 0] : Fin 3 → ℕ) i + 1 * (j i).val = _
  have h0 : (j 0).val = 0 := by have : (j 0).val < 1 := (j 0).isLt; omega
  fin_cases i
  · show b.val + 1 * (j 0).val = b.val
    omega
  · show 0 + 1 * (j 1).val = (j 1).val
    omega
  · show 0 + 1 * (j 2).val = (j 2).val
    omega

/-- A store of one batch's rows. -/
theorem store_row (a : Memref sig .tc .vmem S2x512x768 .f32) (O : a.view.ty.Contents (Elt F)) (b : Fin 2) (v : Vec F S1x512x768 .f32) :
    a.view.read (Elt F) (a.view.writes (Elt F) O [⟨Rect.unit (s := S2x512x768) ![b.val, 0, 0] S1x512x768.size (inbRow b), v⟩])
      = putRow (a.view.read (Elt F) O) b v := by
  funext j
  show _ = if (j 0).val = b.val then _ else _
  by_cases hb : (j 0).val = b.val
  · rw [View.read_writes_cons_unit_of_mem a.view O (inbRow b) v [] j (ix3 (0 : Fin 1) (j 1) (j 2)) rfl (fun i => by
      fin_cases i
      · show (j 0).val = b.val + 0
        omega
      · show (j 1).val = 0 + (j 1).val
        omega
      · show (j 2).val = 0 + (j 2).val
        omega)]
    exact (if_pos hb).symm
  · rw [View.read_writes_cons_unit_of_not_mem a.view O (inbRow b) v [] j rfl 0 (by
      show (j 0).val < b.val ∨ b.val + 1 ≤ (j 0).val
      omega), View.writes_nil]
    exact (if_neg hb).symm

/-- A store of one head's columns, over earlier stores. -/
theorem store_head (a : Memref sig .tc .vmem S512x512 .f32) (C : a.view.ty.Contents (Elt F)) (e : Fin 8) (v : Vec F S512x64 .f32)
    (L : List (View.Piece (Elt F) S512x512 .f32)) :
    a.view.read (Elt F) (a.view.writes (Elt F) C (⟨Rect.unit (s := S512x512) ![0, 64 * e.val] S512x64.size (inbHead e), v⟩ :: L))
      = putHead (a.view.read (Elt F) (a.view.writes (Elt F) C L)) e v := by
  funext j
  show _ = if (j 1).val / 64 = e.val then _ else _
  by_cases hb : (j 1).val / 64 = e.val
  · rw [View.read_writes_cons_unit_of_mem a.view C (inbHead e) v L j (ix2 (j 0) ⟨(j 1).val % 64, Nat.mod_lt _ (by decide)⟩) rfl (fun i => by
      fin_cases i
      · show (j 0).val = 0 + (j 0).val
        omega
      · show (j 1).val = 64 * e.val + (j 1).val % 64
        omega)]
    exact (if_pos hb).symm
  · rw [View.read_writes_cons_unit_of_not_mem a.view C (inbHead e) v L j rfl 1 (by
      show (j 1).val < 64 * e.val ∨ 64 * e.val + 64 ≤ (j 1).val
      omega)]
    exact (if_neg hb).symm

/-- The store of head `e`. -/
abbrev headWrite (e : Fin 8) (v : Vec F S512x64 .f32) : View.Piece (Elt F) S512x512 .f32 :=
  ⟨Rect.unit (s := S512x512) ![0, 64 * e.val] S512x64.size (inbHead e), v⟩

/-- The stores of all eight heads leave them side by side. -/
theorem store_heads (C : Vec F S512x512 .f32) (v : Fin 8 → Vec F S512x64 .f32) :
    aC.view.writes (Elt F) C [headWrite 7 (v 7), headWrite 6 (v 6), headWrite 5 (v 5), headWrite 4 (v 4), headWrite 3 (v 3),
      headWrite 2 (v 2), headWrite 1 (v 1), headWrite 0 (v 0)] = joinHeads v := by
  rw [← View.read_whole cc0_scratch1 (aC.view.writes (Elt F) C _)]
  show aC.view.read (Elt F) _ = _
  rw [store_head aC, store_head aC, store_head aC, store_head aC, store_head aC, store_head aC, store_head aC, store_head aC]
  exact putHeads_eq _ v

/-- A load of one member of the pair in slot `h`. -/
theorem load_weight (c : Dev nD) (h : Fin 4) (W : Dev nD → Vec F S2x768x512 .f32) (k : Fin 2) :
    View.readAt (Elt F) aP.view (Rect.unit (s := S4x2x768x512) ![h.val, k.val, 0, 0] S1x1x768x512.size (inbWeight h k)).toLoadRect (packs W c)
      = weightOf (W (src c h)) k := by
  funext j
  have h0 : (j 0).val = 0 := by have : (j 0).val < 1 := (j 0).isLt; omega
  have h1 : (j 1).val = 0 := by have : (j 1).val < 1 := (j 1).isLt; omega
  refine (congrArg (packs W c) (?_ : _ = ix4 h k (j 2) (j 3))).trans rfl
  funext i
  refine Fin.ext ?_
  fin_cases i
  · show h.val + 1 * (j 0).val = h.val
    omega
  · show k.val + 1 * (j 1).val = k.val
    omega
  · show 0 + 1 * (j 2).val = (j 2).val
    omega
  · show 0 + 1 * (j 3).val = (j 3).val
    omega

end Cert.KernelIdeal.Attn
-- ==== Proof.Slots.lean ====
/- The four slots of the weight pairs: which elements each has, and what a copy and the first store leave in them. -/
module

public import proofs.«01_k».proof.Proof.Values
public import Idealize.ShloMosaic.Lib.ValueLayout
public import Idealize.ShloMosaic.Lib.Pipeline.Value

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Facts₀

variable {F : FTy → Type} [FloatOps F] [Facts]

/-- A slot's elements are those whose first coordinate is the slot's number. -/
theorem mem_slot (s : Fin 4) (i : S4x2x768x512.Idx) : i ∈ (slot s).view.set ↔ (i 0).val = s.val := by
  have e : (slot s).view.set = (Rect.unit (s := S4x2x768x512) ![s.val, 0, 0, 0] S1x2x768x512.size (inbSlot s)).set :=
    (View.set_reshape _ _).trans (View.set_slice_whole _ _)
  refine (Iff.of_eq (congrArg (i ∈ ·) e)).trans (Rect.mem_set_unit.trans ⟨fun h => ?_, fun h a => ?_⟩)
  · have h0 : s.val ≤ (i 0).val ∧ (i 0).val < s.val + 1 := h 0
    omega
  · have hi := (i a).isLt
    fin_cases a
    · show s.val ≤ (i 0).val ∧ (i 0).val < s.val + 1
      omega
    · exact ⟨Nat.zero_le _, by simpa using hi⟩
    · exact ⟨Nat.zero_le _, by simpa using hi⟩
    · exact ⟨Nat.zero_le _, by simpa using hi⟩

/-- An index of a pair, with the unit axis of its slot put back in front. -/
theorem front (z : S2x768x512.Idx) : Shape.reshapeEquiv (squeezes_S1x2x768x512_S2x768x512).numel_eq z
    = (ix4 (0 : Fin 1) (z 0) (z 1) (z 2) : S1x2x768x512.Idx) :=
  (congrArg (Shape.reshapeEquiv _) (ValueIdx.eq_ix3 (n0 := 2) (n1 := 768) (n2 := 512) z)).trans
    (ValueIdx.reshapeEquiv_ix3_1abc _ (z 0) (z 1) (z 2))

/-- Where index `z` of slot `s` sits in the buffer. -/
theorem slot_emb (s : Fin 4) (z : S2x768x512.Idx) : (slot s).view.emb z = (ix4 s (z 0) (z 1) (z 2) : S4x2x768x512.Idx) := by
  show (Rect.unit (s := S4x2x768x512) ![s.val, 0, 0, 0] S1x2x768x512.size (inbSlot s)).emb (Shape.reshapeEquiv _ z) = _
  have e := front z
  refine (congrArg _ e).trans ?_
  funext a
  refine Fin.ext ?_
  fin_cases a
  · show s.val + 1 * 0 = s.val
    omega
  · show 0 + 1 * (z 0).val = (z 0).val
    omega
  · show 0 + 1 * (z 1).val = (z 1).val
    omega
  · show 0 + 1 * (z 2).val = (z 2).val
    omega

/-- Slot `s` read out of the full set of pairs. -/
theorem slot_read (W : Dev nD → Vec F S2x768x512 .f32) (c : Dev nD) (s : Fin 4) :
    (slot s).view.read (Elt F) (packs W c) = W (src c s) := by
  funext z
  refine (congrArg (packs W c) (slot_emb s z)).trans (congrArg (W (src c s)) ?_)
  funext i
  fin_cases i <;> rfl

/-- A write of slot `s` leaves what was written, wherever the slot is read. -/
theorem slot_write (W : Dev nD → Vec F S2x768x512 .f32) (c : Dev nD) (s : Fin 4) (P : Vec F S4x2x768x512 .f32) :
    ∀ i ∈ (slot s).view.set, (slot s).view.write (Elt F) P (W (src c s)) Finset.univ i = packs W c i := by
  intro i hi
  obtain ⟨z, -, rfl⟩ := Finset.mem_map.mp hi
  refine (View.write_emb_of_mem (v := (slot s).view) P (W (src c s)) (Finset.mem_univ z)).trans ?_
  exact (congrFun (slot_read W c s) z).symm

/-- What the copy of slot `h` from device `c` leaves in slot `h + 1` of the device to its right. -/
theorem landing (W : Dev nD → Vec F S2x768x512 .f32) (c : Dev nD) (h : Fin 3) (P : Vec F S4x2x768x512 .f32) :
    ∀ i ∈ (slot h.succ).view.set, (slot h.succ).view.write (Elt F) P ((slot h.castSucc).view.read (Elt F) (packs W c)) Finset.univ i
      = packs W (nxt c) i := by
  rw [slot_read, ← src_nxt]
  exact slot_write W (nxt c) h.succ P

/-- What the store of the device's own pair leaves in slot 0. -/
theorem filling (W : Dev nD → Vec F S2x768x512 .f32) (c : Dev nD) (P : Vec F S4x2x768x512 .f32) :
    ∀ i ∈ (slot 0).view.set, View.write (Elt F) (aP.access (Rect.unit (s := S4x2x768x512) ![0, 0, 0, 0] S1x2x768x512.size (inbSlot 0))) P
      (Gen.k0_pay3 (W c)) Finset.univ i = packs W c i := by
  intro i hi
  obtain ⟨z, -, rfl⟩ := Finset.mem_map.mp hi
  have e := front z
  refine (View.write_emb_of_mem (v := aP.access (Rect.unit (s := S4x2x768x512) ![0, 0, 0, 0] S1x2x768x512.size (inbSlot 0))) P
    (Gen.k0_pay3 (W c)) (Finset.mem_univ (Shape.reshapeEquiv (squeezes_S1x2x768x512_S2x768x512).numel_eq z))).trans ?_
  refine Eq.trans ?_ (congrFun (slot_read W c 0) z).symm
  rw [src_zero, e]
  show Gen.k0_pay3 (W c) (ix4 0 (z 0) (z 1) (z 2)) = W c z
  unfold Gen.k0_pay3
  rw [shapeCast_self]
  refine (ValueIdx.shapeCast_abc_1abc_apply (W c) shapeCasts_S2x768x512_S1x2x768x512 0 (z 0) (z 1) (z 2)).trans ?_
  exact congrArg (W c) (ValueIdx.eq_ix3 (n0 := 2) (n1 := 768) (n2 := 512) z).symm

end Cert.KernelIdeal.Attn
-- ==== Proof.Steps.lean ====
/- The run of each step of the body that touches this device's memory only, with what it leaves. -/
module

public import proofs.«01_k».proof.Proof.Slots
public import Idealize.ShloMosaic.Lib.Rounds
public import Idealize.ShloMosaic.Lib.Tactic
public import Idealize.ShloMosaic.Lib.Pipeline.RegionTalk
public import Idealize.ShloMosaic.Lib.Pipeline.FrameBody

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F] [Facts]

/-- The ghost state: the rounds of the pipeline's own copies, and those of the talk between devices. -/
abbrev UU : Type := UR sig nD τ × URounds (GSem nD τ sig) Bool
local notation "𝕄" => MT nD τ sig Unit (Elt F) ℕ UU ℕ
/-- No loop of the program needs a measure. -/
abbrev 𝒱₀ : Variants := Variants.none

/-- Device `c` holds all of a buffer, with contents `f`. -/
abbrev pt {sp : Space} {s : Shape} {e : EltTy} (a : Memref sig .tc sp s e) (c : Dev nD) (f : a.view.ty.Contents (Elt F)) : sProp 𝕄 :=
  a.view.loc (c : Thread nD τ) ↦{fullShare} f
/-- Device `d` holds the share `q` of slot `s`, with the contents that `f` has there. -/
abbrev ptSlot (s : Fin 4) (d : Dev nD) (q : PosShare TreeShare) (f : Vec F S4x2x768x512 .f32) : sProp 𝕄 :=
  (slot s).view.loc (d : Thread nD τ) ↦[(slot s).view.set]{q} f
variable (c : Dev nD) (h : Fin 4) (b : Fin 2)

/-- The first phase's output rows. -/
theorem outFirst_run (wo : FVec F S768x512 .f32) (C : Vec F S512x512 .f32) (O : Vec F S2x512x768 .f32) (Q : PUnit → sProp 𝕄) :
    iprop(pt aC c C ∗ pt aO c O ∗ (pt aC c C ∗ pt aO c (updFirst wo b C O) -∗ Q ⟨⟩)) ⊢ wp frame (wpE (defs₀ (F := F)) 𝒱₀ (c : Thread nD τ) none) Set.univ (outFirst b wo) Q := by
  sl_unfold [outFirst]
  iintro ⟨HC, HO, Hk⟩
  sl_exec
  rw [wp_ret]
  imodintro
  iapply Hk
  have hO := store_row aO O b (firstOut wo C)
  rw [View.read_whole, View.read_whole] at hO
  rw [View.readAt_full, View.read_whole]
  unfold updFirst
  rw [← hO]
  iframe

/-- A later phase's output rows. -/
theorem outNext_run (wo : FVec F S768x512 .f32) (C : Vec F S512x512 .f32) (O : Vec F S2x512x768 .f32) (Q : PUnit → sProp 𝕄) :
    iprop(pt aC c C ∗ pt aO c O ∗ (pt aC c C ∗ pt aO c (updNext wo b C O) -∗ Q ⟨⟩)) ⊢ wp frame (wpE (defs₀ (F := F)) 𝒱₀ (c : Thread nD τ) none) Set.univ (outNext b wo) Q := by
  sl_unfold [outNext]
  iintro ⟨HC, HO, Hk⟩
  sl_exec
  rw [wp_ret, load_row aO]
  imodintro
  iapply Hk
  have hO := store_row aO O b (nextOut wo C (rowOf O b))
  rw [View.read_whole, View.read_whole] at hO
  rw [View.readAt_full, View.read_whole, View.read_whole]
  unfold updNext
  rw [← hO]
  iframe

/-- One batch: its eight heads, then what `out` does with them. -/
theorem batchStep_run (wq : FVec F S768x512 .f32) (out : Run F PUnit) (upd : Vec F S512x512 .f32 → Vec F S2x512x768 .f32 → Vec F S2x512x768 .f32)
    (hout : ∀ C O (Q : PUnit → sProp 𝕄), iprop(pt aC c C ∗ pt aO c O ∗ (pt aC c C ∗ pt aO c (upd C O) -∗ Q ⟨⟩))
      ⊢ wp frame (wpE (defs₀ (F := F)) 𝒱₀ (c : Thread nD τ) none) Set.univ out Q)
    (X : Vec F S2x512x768 .f32) (K V : Vec F S64x512x64 .f32) (C : Vec F S512x512 .f32) (O : Vec F S2x512x768 .f32) (Q : PUnit → sProp 𝕄) :
    iprop(pt aX c X ∗ pt aK c K ∗ pt aV c V ∗ pt aC c C ∗ pt aO c O
      ∗ (pt aX c X ∗ pt aK c K ∗ pt aV c V ∗ pt aC c (ctxOf c h K V wq X b) ∗ pt aO c (upd (ctxOf c h K V wq X b) O) -∗ Q ⟨⟩))
      ⊢ wp frame (wpE (defs₀ (F := F)) 𝒱₀ (c : Thread nD τ) none) Set.univ (batchStep c h wq out b) Q := by
  sl_unfold [batchStep]
  iintro ⟨HX, HK, HV, HC, HO, Hk⟩
  sl_exec
  simp only [load_head aK, load_head aV, load_row aX, View.read_whole]
  have hC := store_heads C fun e => headVal (queries (rowOf X b) wq) e (headOf K (headNo c h b e)) (headOf V (headNo c h b e))
  beta_reduce at hC
  rw [hC.trans (rfl : _ = ctxOf c h K V wq X b)]
  iapply hout
  iframe HC HO
  iintro ⟨HC, HO⟩
  iapply Hk
  iframe

/-- The two loads of the pair in slot `h`. -/
theorem loadPair_run (W : Dev nD → Vec F S2x768x512 .f32) (q : PosShare TreeShare)
    (k : Vec F S1x1x768x512 .f32 → Vec F S1x1x768x512 .f32 → Run F PUnit) (Q : PUnit → sProp 𝕄) :
    iprop(ptSlot h c q (packs W c) ∗ (ptSlot h c q (packs W c) -∗
        wp frame (wpE (defs₀ (F := F)) 𝒱₀ (c : Thread nD τ) none) Set.univ (k (weightOf (W (src c h)) 0) (weightOf (W (src c h)) 1)) Q))
      ⊢ wp frame (wpE (defs₀ (F := F)) 𝒱₀ (c : Thread nD τ) none) Set.univ (loadPair h k) Q := by
  have hq := load_weight c h W 0
  have ho := load_weight c h W 1
  sl_unfold [loadPair]
  iintro ⟨HP, Hk⟩
  sl_exec
  iapply Hk
  iframe

/-- One phase: both batches, against the pair in slot `h`. -/
theorem phaseWork_run (out : FVec F S768x512 .f32 → Fin 2 → Run F PUnit)
    (upd : FVec F S768x512 .f32 → Fin 2 → Vec F S512x512 .f32 → Vec F S2x512x768 .f32 → Vec F S2x512x768 .f32)
    (hout : ∀ wo b C O (Q : PUnit → sProp 𝕄), iprop(pt aC c C ∗ pt aO c O ∗ (pt aC c C ∗ pt aO c (upd wo b C O) -∗ Q ⟨⟩))
      ⊢ wp frame (wpE (defs₀ (F := F)) 𝒱₀ (c : Thread nD τ) none) Set.univ (out wo b) Q)
    (W : Dev nD → Vec F S2x768x512 .f32) (q : PosShare TreeShare)
    (X : Vec F S2x512x768 .f32) (K V : Vec F S64x512x64 .f32) (O : Vec F S2x512x768 .f32) (Q : PUnit → sProp 𝕄) :
    iprop(pt aX c X ∗ pt aK c K ∗ pt aV c V ∗ (∃ C, pt aC c C) ∗ ptSlot h c q (packs W c) ∗ pt aO c O
      ∗ (pt aX c X ∗ pt aK c K ∗ pt aV c V ∗ (∃ C, pt aC c C) ∗ ptSlot h c q (packs W c)
        ∗ pt aO c (phaseOf c h K V (W (src c h)) X upd O) -∗ Q ⟨⟩))
      ⊢ wp frame (wpE (defs₀ (F := F)) 𝒱₀ (c : Thread nD τ) none) Set.univ (phaseWork c h out) Q := by
  unfold phaseWork phaseOf
  iintro ⟨HX, HK, HV, ⟨%C, HC⟩, HP, HO, Hk⟩
  iapply loadPair_run
  iframe HP
  iintro HP
  rw [wp_bind]
  iapply batchStep_run c h 0 (Gen.k0_pay12 (weightOf (W (src c h)) 0)) (out (Gen.k0_pay13 (weightOf (W (src c h)) 1)) 0)
    (upd (Gen.k0_pay13 (weightOf (W (src c h)) 1)) 0) (hout _ 0)
  iframe HX HK HV HC HO
  iintro ⟨HX, HK, HV, HC, HO⟩
  iapply batchStep_run c h 1 (Gen.k0_pay12 (weightOf (W (src c h)) 0)) (out (Gen.k0_pay13 (weightOf (W (src c h)) 1)) 1)
    (upd (Gen.k0_pay13 (weightOf (W (src c h)) 1)) 1) (hout _ 1)
  iframe HX HK HV HC HO
  iintro ⟨HX, HK, HV, HC, HO⟩
  iapply Hk
  iframe HX HK HV HP HO
  iexists _
  iexact HC

/-- The device's own pair goes into slot 0. -/
theorem fillSlot_run (W : Dev nD → Vec F S2x768x512 .f32) (P : Vec F S4x2x768x512 .f32) (Q : PUnit → sProp 𝕄) :
    iprop(pt aW c (W c) ∗ ptSlot 0 c fullShare P ∗ (pt aW c (W c) ∗ ptSlot 0 c fullShare (packs W c) -∗ Q ⟨⟩))
      ⊢ wp frame (wpE (defs₀ (F := F)) 𝒱₀ (c : Thread nD τ) none) Set.univ fillSlot Q := by
  sl_unfold [fillSlot]
  iintro ⟨HW, HP, Hk⟩
  sl_exec
  rw [wp_ret]
  imodintro
  iapply Hk
  iframe HW
  unfold fillSlot_run.sl.HP_w1
  rw [View.readAt_full, View.read_whole]
  iapply (Entails.of_eq (pointsTo_congr (filling W c P)))
  iexact HP

end Cert.KernelIdeal.Attn
-- ==== Proof.Talk.lean ====
/- The protocol between the devices: which semaphore is paid by whom, with how much, and what each payment hands over.

   Every device signals both neighbours and waits for both. The right neighbour's signal hands over that
   neighbour's slots 1 to 3, into which this device alone copies. The copy of phase `h` lends the source slot `h` by a
   half share, to be given back on the device's own send semaphore, and gives slot `h + 1` of the right neighbour, filled,
   on that neighbour's receive semaphore. -/
module

public import proofs.«01_k».proof.Proof.Steps

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F] [Facts]

local notation "𝕄" => MT nD τ sig Unit (Elt F) ℕ UU ℕ

/-- The pipeline's part of the ghost state. -/
abbrev EP : Emb (UR sig nD τ) (MT nD τ sig Unit (Elt F) ℕ UU ℕ) := embL
/-- The protocol's part. -/
abbrev ER : Emb (URounds (GSem nD τ sig) Bool) (MT nD τ sig Unit (Elt F) ℕ UU ℕ) := embR

/-! ## The cells -/

/-- What a semaphore is for. -/
inductive Role where
  | bar
  | send (h : Fin 3)
  | recv (h : Fin 3)
  | other

/-- The role of each semaphore, by its number. -/
def role : SemLoc sig → Role
  | .reg _ => .bar
  | .dma s =>
    if s.val = 5 then .send 0 else if s.val = 6 then .send 1 else if s.val = 7 then .send 2
    else if s.val = 8 then .recv 0 else if s.val = 9 then .recv 1 else if s.val = 10 then .recv 2 else .other

/-- Device `c`'s handshake semaphore. -/
abbrev cellB (c : Dev nD) : GSem nD τ sig := ((c : Thread nD τ), .reg semB)
/-- Device `c`'s send semaphore of phase `h`. -/
abbrev cellS (h : Fin 3) (c : Dev nD) : GSem nD τ sig := ((c : Thread nD τ), .dma (semS h))
/-- Device `c`'s receive semaphore of phase `h`. -/
abbrev cellR (h : Fin 3) (c : Dev nD) : GSem nD τ sig := ((c : Thread nD τ), .dma (semR h))

omit [Facts] in
theorem semS_val' (sq : S1.Squeezes S_) (h : Fin 3)
    (hi : ∀ a, (![h.val] : Fin 1 → Nat) a + S1.size a ≤ S3.size a) :
    ((cc0_scratch2.slice (Rect.unit (s := S3) ![h.val] S1.size hi)).squeeze S_ sq).sem.val = 5 + h.val := by
  revert sq h; decide +kernel
omit [Facts] in
theorem semR_val' (sq : S1.Squeezes S_) (h : Fin 3)
    (hi : ∀ a, (![h.val] : Fin 1 → Nat) a + S1.size a ≤ S3.size a) :
    ((cc0_scratch3.slice (Rect.unit (s := S3) ![h.val] S1.size hi)).squeeze S_ sq).sem.val = 8 + h.val := by
  revert sq h; decide +kernel
theorem semS_val (h : Fin 3) : (semS h).val = 5 + h.val := semS_val' _ h (inbSem h)
theorem semR_val (h : Fin 3) : (semR h).val = 8 + h.val := semR_val' _ h (inbSem h)
theorem role_S (h : Fin 3) : role (.dma (semS h)) = .send h := by
  unfold role; dsimp only; rw [semS_val]; fin_cases h <;> rfl
theorem role_R (h : Fin 3) : role (.dma (semR h)) = .recv h := by
  unfold role; dsimp only; rw [semR_val]; fin_cases h <;> rfl
theorem role_B : role (.reg semB) = .bar := rfl

/-- The credit of one copy. -/
abbrev Ncr : ℕ := (slot 0).view.dmaCredit
theorem Ncr_pos : 0 < Ncr := View.dmaCredit_pos _ (by decide)

/-! ## The payloads -/

/-- Three of a kind. -/
abbrev three (Φ : Fin 3 → sProp 𝕄) : sProp 𝕄 := iprop(Φ 0 ∗ Φ 1 ∗ Φ 2)
theorem bigSep_three (Φ : Fin 3 → sProp 𝕄) : bigSep Finset.univ Φ = three Φ := by
  rw [show (Finset.univ : Finset (Fin 3)) = {0, 1, 2} from by decide, bigSep_insert (by decide), bigSep_insert (by decide), bigSep_singleton]
  rfl

variable (W : Dev nD → Vec F S2x768x512 .f32)

/-- Slot `h + 1` of device `d`, at any contents, and that its receive semaphore is ready. -/
def room (h : Fin 3) (d : Dev nD) : sProp 𝕄 := iprop((∃ P, ptSlot h.succ d fullShare P) ∗ reached ER (cellR h d) 0)
/-- What a device is given on its handshake semaphore by its right neighbour. -/
def barPay (c : Dev nD) : sProp 𝕄 := three fun h => room h (nxt c)
/-- What comes back on the send semaphore: the lent half of the source slot. -/
def sendPay (h : Fin 3) (c : Dev nD) : sProp 𝕄 := ptSlot h.castSucc c fullShare.left (packs W c)
/-- What comes on the receive semaphore: the next slot, filled. -/
def recvPay (h : Fin 3) (c : Dev nD) : sProp 𝕄 := ptSlot h.succ c fullShare (packs W c)

/-- The payments: one round, two on a handshake semaphore (`true` by the right neighbour, `false` by the left), one on a
    send or receive semaphore. -/
def talk : Rounds.Schedule (GSem nD τ sig) Bool 𝕄 where
  duties g r := if r = 0 ∧ g.1.2 = .tc then (match role g.2 with
    | .bar => Finset.univ | .send _ => {true} | .recv _ => {true} | .other => ∅) else ∅
  amount g _ _ := match role g.2 with | .bar => 1 | _ => Ncr
  payload g _ d := match role g.2 with
    | .bar => if d then barPay g.1.1 else iprop(emp)
    | .send h => sendPay W h g.1.1
    | .recv h => recvPay W h g.1.1
    | .other => iprop(emp)
  amount_pos g _ _ _ := by
    show 0 < (match role g.2 with | .bar => 1 | _ => Ncr)
    split
    · exact Nat.one_pos
    · exact Ncr_pos

instance talk_storable (g : GSem nD τ sig) (r : ℕ) (d : Bool) :
    BI.Storable (upEmb : UEmb _ 𝕄) ((talk (F := F) W).payload g r d) := by
  show BI.Storable upEmb (match role g.2 with
    | .bar => if d then barPay g.1.1 else iprop(emp)
    | .send h => sendPay W h g.1.1
    | .recv h => recvPay W h g.1.1
    | .other => iprop(emp))
  unfold barPay three room sendPay recvPay
  (repeat' split) <;> infer_instance

section Tables

variable (h : Fin 3) (c : Dev nD)

theorem duties_B : (talk W).duties (cellB c) 0 = Finset.univ := by dsimp only [talk]; exact if_pos ⟨rfl, rfl⟩
theorem duties_S : (talk W).duties (cellS h c) 0 = {true} := by dsimp only [talk]; rw [role_S]; exact if_pos ⟨rfl, rfl⟩
theorem duties_R : (talk W).duties (cellR h c) 0 = {true} := by dsimp only [talk]; rw [role_R]; exact if_pos ⟨rfl, rfl⟩
theorem duties_later (g : GSem nD τ sig) : ∀ r, 1 ≤ r → (talk W).duties g r = ∅ :=
  fun r hr => by dsimp only [talk]; rw [if_neg (fun h => by omega)]
theorem amount_B (d : Bool) : (talk W).amount (cellB c) 0 d = 1 := rfl
theorem amount_S (d : Bool) : (talk W).amount (cellS h c) 0 d = Ncr := by dsimp only [talk]; rw [role_S]
theorem amount_R (d : Bool) : (talk W).amount (cellR h c) 0 d = Ncr := by dsimp only [talk]; rw [role_R]
theorem expect_B : (talk W).expect (cellB c) 0 = 2 := by
  unfold Schedule.expect Schedule.amountOf; rw [duties_B]; rfl
theorem expect_S : (talk W).expect (cellS h c) 0 = Ncr := by
  unfold Schedule.expect Schedule.amountOf; rw [duties_S, Finset.sum_singleton, amount_S]
theorem expect_R : (talk W).expect (cellR h c) 0 = Ncr := by
  unfold Schedule.expect Schedule.amountOf; rw [duties_R, Finset.sum_singleton, amount_R]
theorem payload_B : (talk W).payload (cellB c) 0 true = barPay c := rfl
theorem payload_B' : (talk W).payload (cellB c) 0 false = iprop(emp) := rfl
theorem payload_S (d : Bool) : (talk W).payload (cellS h c) 0 d = sendPay W h c := by dsimp only [talk]; rw [role_S]
theorem payload_R (d : Bool) : (talk W).payload (cellR h c) 0 d = recvPay W h c := by dsimp only [talk]; rw [role_R]

theorem rest_B : bigSep ((talk W).duties (cellB c) 0 \ ∅) (fun d => (talk W).payload (cellB c) 0 d) = iprop(emp ∗ barPay c) := by
  rw [Finset.sdiff_empty, duties_B, show (Finset.univ : Finset Bool) = {false, true} from by decide, bigSep_insert (by decide),
    bigSep_singleton, payload_B, payload_B']
  rfl
theorem rest_S : bigSep ((talk W).duties (cellS h c) 0 \ ∅) (fun d => (talk W).payload (cellS h c) 0 d) = sendPay W h c := by
  rw [Finset.sdiff_empty, duties_S, bigSep_singleton, payload_S]
theorem rest_R : bigSep ((talk W).duties (cellR h c) 0 \ ∅) (fun d => (talk W).payload (cellR h c) 0 d) = recvPay W h c := by
  rw [Finset.sdiff_empty, duties_R, bigSep_singleton, payload_R]

end Tables

/-! ## What a device owes, and in which order it may wait -/

/-- The credit owed for the copy of phase `h`. -/
abbrev debt (c : Dev nD) (h : Fin 3) : CellTallies nD τ sig Unit := tallyAt (cellR h (nxt c)) () Ncr
/-- What is owed before the copy of phase `k`: that copy and the later ones. -/
def owing (c : Dev nD) : Fin 4 → CellTallies nD τ sig Unit
  | 0 => 0 + debt c 2 + debt c 1 + debt c 0
  | 1 => 0 + debt c 2 + debt c 1
  | 2 => 0 + debt c 2
  | 3 => 0
theorem owing_step (c : Dev nD) (h : Fin 3) : owing c h.castSucc = owing c h.succ + debt c h := by fin_cases h <;> rfl
/-- What is owed at the launch: the copies and the two signals. -/
def owed₀ (c : Dev nD) : CellTallies nD τ sig Unit := owing c 0 + tallyAt (cellB (nxt c)) () 1 + tallyAt (cellB (prv c)) () 1

/-- Every semaphore of a device's main core counts in one way. -/
def L (g : GSem nD τ sig) : Finset Unit := if g.1.2 = .tc then {()} else ∅
/-- The order of the waits: the handshake, then the receive semaphores by phase. -/
def lv (g : GSem nD τ sig) (_ : Unit) : ℕ := match role g.2 with | .bar => 1 | .recv h => 2 + h.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_B (c : Dev nD) (u : Unit) : lv (cellB c) u = 1 := rfl
theorem lv_S (h : Fin 3) (c : Dev nD) (u : Unit) : lv (cellS h c) u = 0 := by unfold lv; rw [role_S]
theorem lv_R (h : Fin 3) (c : Dev nD) (u : Unit) : lv (cellR h c) u = 2 + h.val := by unfold lv; rw [role_R]

theorem tally_pos {g g' : GSem nD τ sig} {u u' : Unit} {n : ℕ} (h : 0 < (tallyAt g' u' n : CellTallies nD τ sig Unit) g u) : g = g' := by
  rw [tallyAt_apply] at h
  split at h
  · next hg => exact hg.1
  · exact absurd h (Nat.lt_irrefl 0)
theorem add_pos {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

/-- Only receive semaphores of the right neighbour are owed to, from phase `k` on. -/
theorem owing_pos {c : Dev nD} {k : Fin 4} {g : GSem nD τ sig} {u : Unit} (h : 0 < owing c k g u) :
    ∃ j : Fin 3, k.val ≤ j.val ∧ g = cellR j (nxt c) := by
  have h0 : ¬ 0 < (0 : CellTallies nD τ sig Unit) g u := Nat.lt_irrefl 0
  fin_cases k
  · rcases add_pos h with h | h
    · rcases add_pos h with h | h
      · rcases add_pos h with h | h
        · exact absurd h h0
        · exact ⟨2, by decide, tally_pos h⟩
      · exact ⟨1, by decide, tally_pos h⟩
    · exact ⟨0, by decide, tally_pos h⟩
  · rcases add_pos h with h | h
    · rcases add_pos h with h | h
      · exact absurd h h0
      · exact ⟨2, by decide, tally_pos h⟩
    · exact ⟨1, by decide, tally_pos h⟩
  · rcases add_pos h with h | h
    · exact absurd h h0
    · exact ⟨2, by decide, tally_pos h⟩
  · exact absurd h h0

/-- A device may wait on one of its semaphores while it owes the copies from phase `k` on, if that semaphore comes before them. -/
theorem mayWait (c : Dev nD) (sm : SemLoc sig) (k : Fin 4) (hk : lv ((c : Thread nD τ), sm) () < 2 + k.val) :
    (levAts L lv : sProp 𝕄) ⊢ MayWait (c : Thread nD τ) sm () (owing c k) :=
  MayOwe.of_cut (L := L) (lev := lv) (1 + k.val)
    (fun p hp => by rw [Finset.mem_singleton.mp hp, L_tc]; exact Finset.mem_singleton_self _)
    (fun g u hg => by obtain ⟨j, -, rfl⟩ := owing_pos hg; rw [L_tc]; exact Finset.mem_singleton_self _)
    (fun p hp => by rw [Finset.mem_singleton.mp hp]; dsimp only; omega)
    (fun g u hg => by obtain ⟨j, hj, rfl⟩ := owing_pos hg; rw [lv_R]; omega)

/-- At the launch every debt comes after the pipeline's own semaphores. -/
theorem owed₀_pos {c : Dev nD} {g : GSem nD τ sig} {u : Unit} (h : 0 < owed₀ c g u) : u ∈ L g ∧ 0 < lv g u := by
  rcases add_pos h with h | h
  · rcases add_pos h with h | h
    · obtain ⟨j, -, rfl⟩ := owing_pos h
      exact ⟨by rw [L_tc]; exact Finset.mem_singleton_self _, by rw [lv_R]; omega⟩
    · obtain rfl := tally_pos h
      exact ⟨by rw [L_tc]; exact Finset.mem_singleton_self _, by rw [lv_B]; exact Nat.one_pos⟩
  · obtain rfl := tally_pos h
    exact ⟨by rw [L_tc]; exact Finset.mem_singleton_self _, by rw [lv_B]; exact Nat.one_pos⟩

/-! ## The cells of the launch -/

/-- The copies' semaphores: by kind (0 send, 1 receive) and phase. -/
abbrev osem : Fin 2 × Fin 3 → SemLoc sig := fun k => if k.1 = 0 then .dma (semS k.2) else .dma (semR k.2)
theorem osem_inj : Function.Injective osem := by
  have hv : ∀ k : Fin 2 × Fin 3, osem k = .dma (if k.1 = 0 then semS k.2 else semR k.2) := fun k => by unfold osem; split <;> rfl
  rintro ⟨a, h⟩ ⟨b, j⟩ e
  rw [hv, hv] at e
  have e := congrArg Fin.val (SemLoc.dma.inj e)
  dsimp only at e
  have h1 := semS_val h; have h2 := semR_val h; have h3 := semS_val j; have h4 := semR_val j
  refine Prod.ext (Fin.ext ?_) (Fin.ext ?_) <;> dsimp only <;> fin_cases a <;> fin_cases b <;> simp at e ⊢ <;> omega

/-- The handshake semaphores, as a family. -/
def barEmb : Dev nD ↪ GSem nD τ sig := ⟨fun c => cellB c, fun _ _ h => congrArg (fun g : GSem nD τ sig => g.1.1) h⟩
/-- The copies' semaphores, as a family. -/
def cpyEmb : Dev nD × (Fin 2 × Fin 3) ↪ GSem nD τ sig :=
  ⟨fun ck => ((ck.1 : Thread nD τ), osem ck.2), fun _ _ h =>
    Prod.ext (congrArg (fun g : GSem nD τ sig => g.1.1) h) (osem_inj (congrArg Prod.snd h))⟩
/-- All handshake semaphores. -/
abbrev barCells : Finset (GSem nD τ sig) := Finset.univ.map barEmb
/-- All semaphores of copies. -/
abbrev cpyCells : Finset (GSem nD τ sig) := Finset.univ.map cpyEmb

theorem disjoint_cells : Disjoint (barCells : Finset (GSem nD τ sig)) cpyCells := by
  rw [Finset.disjoint_left]
  rintro g h₁ h₂
  obtain ⟨c, -, rfl⟩ := Finset.mem_map.mp h₁
  obtain ⟨⟨d, a, j⟩, -, h⟩ := Finset.mem_map.mp h₂
  have h := congrArg Prod.snd h
  change (if a = 0 then SemLoc.dma (semS j) else SemLoc.dma (semR j)) = SemLoc.reg semB at h
  split at h <;> cases h

theorem mem_B (c : Dev nD) : cellB c ∈ (barCells ∪ cpyCells : Finset (GSem nD τ sig)) :=
  Finset.mem_union_left _ (Finset.mem_map_of_mem barEmb (Finset.mem_univ c))
theorem mem_S (h : Fin 3) (c : Dev nD) : cellS h c ∈ (barCells ∪ cpyCells : Finset (GSem nD τ sig)) :=
  Finset.mem_union_right _ (Finset.mem_map_of_mem cpyEmb (Finset.mem_univ (c, ((0 : Fin 2), h))))
theorem mem_R (h : Fin 3) (c : Dev nD) : cellR h c ∈ (barCells ∪ cpyCells : Finset (GSem nD τ sig)) :=
  Finset.mem_union_right _ (Finset.mem_map_of_mem cpyEmb (Finset.mem_univ (c, ((1 : Fin 2), h))))

/-- What every device may consult: the invariants of all cells, and that every handshake semaphore is ready. -/
def records (κ : GSem nD τ sig → ℕ) : sProp 𝕄 :=
  iprop((bigSep (barCells ∪ cpyCells) fun g => cellInv ER (talk W) (κ g) g) ∗ bigSep barCells fun g => reached ER g 0)
instance records_persistent (κ : GSem nD τ sig → ℕ) : BI.Persistent (records W κ) := by unfold records; infer_instance

theorem inv_of (κ : GSem nD τ sig → ℕ) {g : GSem nD τ sig} (hg : g ∈ (barCells ∪ cpyCells : Finset (GSem nD τ sig))) :
    records W κ ⊢ cellInv ER (talk W) (κ g) g := by
  unfold records; exact Laws.sep_elim_left.trans (bigSep_elim (Φ := fun g => cellInv ER (talk W) (κ g) g) hg)
theorem ready_of (κ : GSem nD τ sig → ℕ) (c : Dev nD) : records W κ ⊢ reached ER (cellB c) 0 := by
  unfold records
  exact Laws.sep_elim_right.trans (bigSep_elim (Φ := fun g => reached ER g 0) (Finset.mem_map_of_mem barEmb (Finset.mem_univ c)))

/-- A cell at the end of its round gives its counter back at zero. -/
theorem close (κ : ℕ) (g : GSem nD τ sig) :
    iprop(cellInv ER (talk W) κ g ∗ atPos ER g (0 + 1) ∅ 0) ⊢ (|={Set.univ}=> semVal g 0 : sProp 𝕄) :=
  Rounds.cell_close ER (talk W) (Set.mem_univ κ) id (duties_later W g)

end Cert.KernelIdeal.Attn
-- ==== Proof.Body.lean ====
/- The run of one device's program: the handshake, the copies and their waits, and the phases between them. -/
module

public import proofs.«01_k».proof.Proof.Talk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F] [Facts]

local notation "𝕄" => MT nD τ sig Unit (Elt F) ℕ UU ℕ

/-! ## The slots and the whole -/

/-- The places of slot `s`. -/
abbrev places (s : Fin 4) : Finset S4x2x768x512.Idx := (slot s).view.set
theorem places_apart : ∀ s ∈ (Finset.univ : Finset (Fin 4)), ∀ t ∈ (Finset.univ : Finset (Fin 4)), s ≠ t →
    Disjoint (places s) (places t) := by
  intro s _ t _ hst
  rw [Finset.disjoint_left]
  intro i hi hj
  exact hst (Fin.ext (((mem_slot s i).mp hi).symm.trans ((mem_slot t i).mp hj)))
theorem places_cover : (Finset.univ : Finset (Fin 4)).biUnion places = Finset.univ := by
  ext i
  simp only [Finset.mem_biUnion, Finset.mem_univ, true_and, iff_true]
  exact ⟨⟨(i 0).val, (i 0).isLt⟩, (mem_slot _ i).mpr rfl⟩

/-- The scratch of the weight pairs is its four slots. -/
theorem slots_eq (c : Dev nD) (P : Vec F S4x2x768x512 .f32) :
    (pt aP c P : sProp 𝕄) = iprop(ptSlot 0 c fullShare P ∗ ptSlot 1 c fullShare P ∗ ptSlot 2 c fullShare P ∗ ptSlot 3 c fullShare P) := by
  have h : (pt aP c P : sProp 𝕄) = bigSep Finset.univ fun s : Fin 4 => ptSlot s c fullShare P := by
    have h := pointsTo_biUnion (nD := nD) (τ := τ) (sig := sig) (Ix := Unit) (Val := Elt F) (Name := ℕ) (U := UU) (Lvl := ℕ)
      (ℓ := aP.view.loc (c : Thread nD τ)) (q := fullShare) (f := P) Finset.univ places places_apart
    rw [places_cover] at h
    exact h
  rw [h, show (Finset.univ : Finset (Fin 4)) = {0, 1, 2, 3} from by decide, bigSep_insert (by decide), bigSep_insert (by decide),
    bigSep_insert (by decide), bigSep_singleton]
  rfl

variable (W : Dev nD → Vec F S2x768x512 .f32) (κ : GSem nD τ sig → ℕ)

/-! ## The handshake -/

/-- What the handshake uses: the place at the own semaphore, the right to pay the neighbours', and the credit to wait. -/
def barKit (c : Dev nD) : sProp 𝕄 :=
  iprop(atPos ER (cellB c) 0 ∅ 0 ∗ dutyTok ER (cellB (prv c)) 0 true ∗ dutyTok ER (cellB (nxt c)) 0 false ∗ cred (tallyAt (cellB c) () 2))

/-- The handshake: the own slots 1 to 3 are given to the left neighbour, the right neighbour's are received. -/
theorem handshake_run (c : Dev nD) (Wd : Waits sig Unit) (Q : PUnit → sProp 𝕄) :
    iprop(records W κ ∗ levAts L lv ∗ barKit c ∗ three (fun h => room h c) ∗ owes (c : Thread nD τ) (owed₀ c) Wd
      ∗ (three (fun h => room h (nxt c)) ∗ semVal (cellB c) 0 ∗ (∃ Wd, owes (c : Thread nD τ) (owing c 0) Wd) -∗ Q ⟨⟩))
      ⊢ wp frame (wpE (defs₀ (F := F)) 𝒱₀ (c : Thread nD τ) none) Set.univ (handshake (prv c) (nxt c)) Q := by
  unfold handshake
  simp only [semSignalWord, semWaitWord, Prog.lift, Prog.bind_op, Prog.bind_ret, Prog.pure_eq_ret]
  unfold barKit
  iintro ⟨#HR, #Hlev, ⟨Hat, HtP, HtN, Hc⟩, Hroom, HO, Hk⟩
  ihave #HIc := (inv_of W κ (mem_B c)) $$ HR
  ihave #HIp := (inv_of W κ (mem_B (prv c))) $$ HR
  ihave #HIn := (inv_of W κ (mem_B (nxt c))) $$ HR
  ihave #Hrp := (ready_of W κ (prv c)) $$ HR
  ihave #Hrn := (ready_of W κ (nxt c)) $$ HR
  unfold owed₀
  iapply (Rounds.wp_signal 𝒱₀ ER (talk W) (c : Thread nD τ) none (dst := (prv c : Thread nD τ)) (κ := κ (cellB (prv c))) (d := true)
      (by rw [duties_B]; exact Finset.mem_univ _) ((amount_B W (prv c) true).trans (by decide)) ()
      (owing c 0 + tallyAt (cellB (nxt c)) () 1) rfl) $$ [HO HtP Hroom]
  · isplitr; · iexact HIp
    isplitl [HO]; · iexact HO
    isplitl [HtP]; · iexact HtP
    isplitl [Hroom]
    · rw [payload_B]; unfold barPay; rw [nxt_prv]; iexact Hroom
    iexact Hrp
  iintro HO
  iapply (Rounds.wp_signal 𝒱₀ ER (talk W) (c : Thread nD τ) none (dst := (nxt c : Thread nD τ)) (κ := κ (cellB (nxt c))) (d := false)
      (by rw [duties_B]; exact Finset.mem_univ _) ((amount_B W (nxt c) false).trans (by decide)) () (owing c 0) rfl) $$ [HO HtN]
  · isplitr; · iexact HIn
    isplitl [HO]; · iexact HO
    isplitl [HtN]; · iexact HtN
    isplitr; · rw [payload_B']; iempintro
    iexact Hrn
  iintro HO
  iapply (Rounds.wp_wait_rest_token 𝒱₀ ER (talk W) (c : Thread nD τ) none (κ := κ (cellB c))
      (wpE_semWait_eq 𝒱₀ (c : Thread nD τ) none Set.univ) (Set.mem_univ _) () (O := owing c 0) (W := Wd) (R := 0) (m := 0) (T := ∅)
      (by rw [expect_B]; decide)) $$ [Hc HO Hat]
  · isplitr; · iexact HIc
    isplitl [Hc]; · iexact Hc
    isplitl [HO]; · iexact HO
    isplitr; · iapply (mayWait c (.reg semB) 0 (by rw [lv_B]; decide)); iexact Hlev
    iexact Hat
  iintro ⟨HO, Hat, -, Hpay⟩
  ihave Hp := (Entails.of_eq (rest_B W c)) $$ Hpay
  icases Hp with ⟨-, Hp⟩
  imod (close W (κ (cellB c)) (cellB c)) $$ [Hat] with Hz
  · isplitr; · iexact HIc
    iexact Hat
  rw [wp_ret]
  imodintro
  iapply Hk
  isplitl [Hp]; · unfold barPay; iexact Hp
  isplitl [Hz]; · iexact Hz
  iexists _
  iexact HO

/-! ## A copy and its waits -/

/-- What the copy of phase `h` uses: the places at the own send and receive semaphores, the rights to pay the own send and
    the right neighbour's receive semaphore, and the credit to wait for the left neighbour's copy. -/
def phaseKit (h : Fin 3) (c : Dev nD) : sProp 𝕄 :=
  iprop(atPos ER (cellS h c) 0 ∅ 0 ∗ atPos ER (cellR h c) 0 ∅ 0 ∗ reached ER (cellS h c) 0
    ∗ dutyTok ER (cellS h c) 0 true ∗ dutyTok ER (cellR h (nxt c)) 0 true ∗ cred (tallyAt (cellR h c) () Ncr))

/-- What is left of it between the copy's start and the waits. -/
def waitKit (h : Fin 3) (c : Dev nD) : sProp 𝕄 :=
  iprop(atPos ER (cellS h c) 0 ∅ 0 ∗ atPos ER (cellR h c) 0 ∅ 0
    ∗ cred (tallyAt (cellR h c) () Ncr) ∗ cred (tallyAt (cellS h c) () Ncr))

/-- The copy of phase `h` starts: the left half of the source slot goes with it. -/
theorem send_run (h : Fin 3) (c : Dev nD) (Q : PUnit → sProp 𝕄) :
    iprop(records W κ ∗ phaseKit h c ∗ room h (nxt c) ∗ ptSlot h.castSucc c fullShare (packs W c)
      ∗ (∃ Wd, owes (c : Thread nD τ) (owing c h.castSucc) Wd)
      ∗ (waitKit h c ∗ ptSlot h.castSucc c fullShare.right (packs W c) ∗ (∃ Wd, owes (c : Thread nD τ) (owing c h.succ) Wd) -∗ Q ⟨⟩))
      ⊢ wp frame (wpE (defs₀ (F := F)) 𝒱₀ (c : Thread nD τ) none) Set.univ (send (nxt c) h) Q := by
  unfold send room phaseKit
  simp only [Prog.lift]
  iintro ⟨#HR, ⟨HatS, HatR, #HrS, HtS, HtR, HcR⟩, ⟨⟨%P, Hdst⟩, #HrR⟩, Hsrc, ⟨%Wd, HO⟩, Hk⟩
  ihave #HIs := (inv_of W κ (mem_S h c)) $$ HR
  ihave #HIr := (inv_of W κ (mem_R h (nxt c))) $$ HR
  ihave Hs := (pointsTo_share (PosShare.mem_left_op_right fullShare)).1 $$ Hsrc
  icases Hs with ⟨HsL, HsR⟩
  iapply (Rounds.wp_send_pointsTo 𝒱₀ ER (talk W) (c : Thread nD τ) none (c' := (nxt c : Thread nD τ)) (src := slot h.castSucc)
      (dst := slot h.succ) (sS := .dma (semS h)) (sem := .dma (semR h)) (q := fullShare.left) (fs := packs W c)
      (κ₁ := κ (cellS h c)) (κ₂ := κ (cellR h (nxt c))) (r₁ := 0) (r₂ := 0) (d₁ := true) (d₂ := true) (fd := P)
      (by rw [duties_S]; exact Finset.mem_singleton_self _) (by rw [duties_R]; exact Finset.mem_singleton_self _)
      () () Ncr rfl (amount_S W h c true) (amount_R W h (nxt c) true) (owing c h.succ) (owing_step c h) (W := Wd)
      (by rw [payload_S]; exact Entails.refl _)
      (by rw [payload_R]; exact Entails.of_eq (pointsTo_congr (landing W c h P)))) $$ [HsL Hdst HO HtS HtR]
  · isplitr; · iexact HIs
    isplitr; · iexact HIr
    isplitl [HsL]; · iexact HsL
    isplitl [Hdst]; · iexact Hdst
    isplitl [HO]; · iexact HO
    isplitl [HtS]; · iexact HtS
    isplitr; · iexact HrS
    isplitl [HtR]; · iexact HtR
    iexact HrR
  iintro ⟨HcS, HO⟩
  rw [wp_ret]
  imodintro
  iapply Hk
  unfold waitKit
  iframe HatS HatR HcR HcS HsR
  iexists _
  iexact HO

/-- The waits of phase `h`: the source slot is whole again, the next one is there, and both counters are back at zero. -/
theorem waits_run (h : Fin 3) (c : Dev nD) (Q : PUnit → sProp 𝕄) :
    iprop(records W κ ∗ levAts L lv ∗ waitKit h c ∗ ptSlot h.castSucc c fullShare.right (packs W c)
      ∗ (∃ Wd, owes (c : Thread nD τ) (owing c h.succ) Wd)
      ∗ (ptSlot h.castSucc c fullShare (packs W c) ∗ ptSlot h.succ c fullShare (packs W c)
        ∗ (semVal (cellS h c) 0 ∗ semVal (cellR h c) 0) ∗ (∃ Wd, owes (c : Thread nD τ) (owing c h.succ) Wd) -∗ Q ⟨⟩))
      ⊢ wp frame (wpE (defs₀ (F := F)) 𝒱₀ (c : Thread nD τ) none) Set.univ (waits h) Q := by
  unfold waits waitKit
  simp only [Prog.lift, Prog.bind_op, Prog.bind_ret]
  iintro ⟨#HR, #Hlev, ⟨HatS, HatR, HcR, HcS⟩, HsR, ⟨%Wd, HO⟩, Hk⟩
  ihave #HIs := (inv_of W κ (mem_S h c)) $$ HR
  ihave #HIr := (inv_of W κ (mem_R h c)) $$ HR
  iapply (Rounds.wp_wait_rest_token 𝒱₀ ER (talk W) (c : Thread nD τ) none (κ := κ (cellS h c))
      (wpE_waitDma2_eq (src := slot h.succ) (dst := slot h.castSucc) 𝒱₀ (c : Thread nD τ) none Set.univ) (Set.mem_univ _) ()
      (O := owing c h.succ) (W := Wd) (R := 0) (m := 0) (T := ∅) (by rw [Nat.zero_add, expect_S])) $$ [HcS HO HatS]
  · isplitr; · iexact HIs
    isplitl [HcS]; · iexact HcS
    isplitl [HO]; · iexact HO
    isplitr; · iapply (mayWait c (.dma (semS h)) h.succ (by rw [lv_S]; omega)); iexact Hlev
    iexact HatS
  iintro ⟨HO, HatS, -, Hpay⟩
  ihave HsL := (Entails.of_eq (rest_S W h c)) $$ Hpay
  iapply (Rounds.wp_wait_rest_token 𝒱₀ ER (talk W) (c : Thread nD τ) none (κ := κ (cellR h c))
      (wpE_waitDma2_eq (src := slot h.castSucc) (dst := slot h.succ) 𝒱₀ (c : Thread nD τ) none Set.univ) (Set.mem_univ _) ()
      (O := owing c h.succ) (W := insert (SemLoc.dma (semS h), ()) Wd) (R := 0) (m := 0) (T := ∅)
      (by rw [Nat.zero_add, expect_R])) $$ [HcR HO HatR]
  · isplitr; · iexact HIr
    isplitl [HcR]; · iexact HcR
    isplitl [HO]; · iexact HO
    isplitr; · iapply (mayWait c (.dma (semR h)) h.succ (by rw [lv_R, Fin.val_succ]; omega)); iexact Hlev
    iexact HatR
  iintro ⟨HO, HatR, -, Hpay⟩
  ihave Hd := (Entails.of_eq (rest_R W h c)) $$ Hpay
  imod (close W (κ (cellS h c)) (cellS h c)) $$ [HatS] with HzS
  · isplitr; · iexact HIs
    iexact HatS
  imod (close W (κ (cellR h c)) (cellR h c)) $$ [HatR] with HzR
  · isplitr; · iexact HIr
    iexact HatR
  rw [wp_ret]
  imodintro
  iapply Hk
  unfold sendPay recvPay
  isplitl [HsL HsR]
  · iapply (pointsTo_share (PosShare.mem_left_op_right fullShare)).2
    isplitl [HsL]; · iexact HsL
    iexact HsR
  isplitl [Hd]; · iexact Hd
  isplitl [HzS HzR]; · iframe HzS HzR
  iexists _
  iexact HO

/-! ## The whole program -/

theorem dev1_eq (c : Dev nD) : (⟨k0_dev1 c, k0_dev1_lt c⟩ : Dev nD) = prv c := Fin.ext (Gen.k0_dev1_eq c)
theorem dev2_eq (c : Dev nD) : (⟨k0_dev2 c, k0_dev2_lt c⟩ : Dev nD) = nxt c := Fin.ext (Gen.k0_dev2_eq c)
theorem dev3_eq (c : Dev nD) : (⟨k0_dev3 c, k0_dev3_lt c⟩ : Dev nD) = nxt c := Fin.ext (Gen.k0_dev3_eq c)
theorem dev4_eq (c : Dev nD) : (⟨k0_dev4 c, k0_dev4_lt c⟩ : Dev nD) = nxt c := Fin.ext (Gen.k0_dev4_eq c)
theorem dev5_eq (c : Dev nD) : (⟨k0_dev5 c, k0_dev5_lt c⟩ : Dev nD) = nxt c := Fin.ext (Gen.k0_dev5_eq c)

/-- A device's part of the ghost state: the records, the order of the waits, and what its handshake and its copies use. -/
def kit (c : Dev nD) : sProp 𝕄 :=
  iprop(records W κ ∗ levAts L lv ∗ barKit c ∗ three (fun h => phaseKit h c) ∗ three (fun h => reached ER (cellR h c) 0))

/-- The counters a device has back at the end. -/
def zeros (c : Dev nD) : sProp 𝕄 :=
  iprop(semVal (cellB c) 0 ∗ three (fun h => iprop(semVal (cellS h c) 0 ∗ semVal (cellR h c) 0)))

/-- The program on device `c`: the output window ends at `outOf`, all counters are back at zero and nothing is owed. -/
theorem prog_run (c : Dev nD) (X : Vec F S2x512x768 .f32) (K V : Vec F S64x512x64 .f32) (O : Vec F S2x512x768 .f32)
    (Wd : Waits sig Unit) (Q : PUnit → sProp 𝕄) :
    iprop(kit W κ c ∗ owes (c : Thread nD τ) (owed₀ c) Wd ∗ (pt aX c X ∗ pt aW c (W c) ∗ pt aK c K ∗ pt aV c V ∗ pt aO c O)
      ∗ (∃ P, pt aP c P) ∗ (∃ C, pt aC c C)
      ∗ (zeros c ∗ (∃ Wd, owes (c : Thread nD τ) 0 Wd)
        ∗ (pt aX c X ∗ pt aW c (W c) ∗ pt aK c K ∗ pt aV c V ∗ pt aO c (outOf c W K V X O))
        ∗ (∃ P, pt aP c P) ∗ (∃ C, pt aC c C) -∗ Q ⟨⟩))
      ⊢ wp frame (wpE (defs₀ (F := F)) 𝒱₀ (c : Thread nD τ) none) Set.univ prog Q := by
  unfold prog kit outOf
  simp only [Prog.lift, Prog.bind_op, Prog.bind_ret, wp_deviceId, dev1_eq, dev2_eq, dev3_eq, dev4_eq, dev5_eq]
  iintro ⟨⟨#HR, #Hlev, Hbar, ⟨Hk0, Hk1, Hk2⟩, #Hr0, #Hr1, #Hr2⟩, HO, ⟨HX, HW, HK, HV, Ho⟩, ⟨%P, HP⟩, HC, Hk⟩
  ihave Hs := (Entails.of_eq (slots_eq c P)) $$ HP
  icases Hs with ⟨H0, H1, H2, H3⟩
  rw [wp_bind]
  iapply (handshake_run W κ c Wd)
  isplitr; · iexact HR
  isplitr; · iexact Hlev
  isplitl [Hbar]; · iexact Hbar
  isplitl [H1 H2 H3]
  · unfold room
    isplitl [H1]
    · isplitl [H1]; · iexists P; iexact H1
      iexact Hr0
    isplitl [H2]
    · isplitl [H2]; · iexists P; iexact H2
      iexact Hr1
    isplitl [H3]; · iexists P; iexact H3
    iexact Hr2
  isplitl [HO]; · iexact HO
  iintro ⟨⟨Hm0, Hm1, Hm2⟩, HzB, HO⟩
  rw [wp_bind]
  iapply (fillSlot_run c W P)
  isplitl [HW]; · iexact HW
  isplitl [H0]; · iexact H0
  iintro ⟨HW, H0⟩
  -- phase 0
  rw [wp_bind]
  iapply (send_run W κ 0 c)
  isplitr; · iexact HR
  isplitl [Hk0]; · iexact Hk0
  isplitl [Hm0]; · iexact Hm0
  isplitl [H0]; · iexact H0
  isplitl [HO]; · iexact HO
  iintro ⟨Hw, H0, HO⟩
  rw [wp_bind]
  iapply (phaseWork_run c 0 (fun o b => outFirst b o) updFirst (fun wo b C O Q => outFirst_run c b wo C O Q) W fullShare.right X K V O)
  iframe HX HK HV HC Ho
  isplitl [H0]; · iexact H0
  iintro ⟨HX, HK, HV, HC, H0, Ho⟩
  rw [wp_bind]
  iapply (waits_run W κ 0 c)
  isplitr; · iexact HR
  isplitr; · iexact Hlev
  isplitl [Hw]; · iexact Hw
  isplitl [H0]; · iexact H0
  isplitl [HO]; · iexact HO
  iintro ⟨H0, H1, Hz0, HO⟩
  -- phase 1
  rw [wp_bind]
  iapply (send_run W κ 1 c)
  isplitr; · iexact HR
  isplitl [Hk1]; · iexact Hk1
  isplitl [Hm1]; · iexact Hm1
  isplitl [H1]; · iexact H1
  isplitl [HO]; · iexact HO
  iintro ⟨Hw, H1, HO⟩
  rw [wp_bind]
  iapply (phaseWork_run c 1 (fun o b => outNext b o) updNext (fun wo b C O Q => outNext_run c b wo C O Q) W fullShare.right X K V)
  iframe HX HK HV HC Ho
  isplitl [H1]; · iexact H1
  iintro ⟨HX, HK, HV, HC, H1, Ho⟩
  rw [wp_bind]
  iapply (waits_run W κ 1 c)
  isplitr; · iexact HR
  isplitr; · iexact Hlev
  isplitl [Hw]; · iexact Hw
  isplitl [H1]; · iexact H1
  isplitl [HO]; · iexact HO
  iintro ⟨H1, H2, Hz1, HO⟩
  -- phase 2
  rw [wp_bind]
  iapply (send_run W κ 2 c)
  isplitr; · iexact HR
  isplitl [Hk2]; · iexact Hk2
  isplitl [Hm2]; · iexact Hm2
  isplitl [H2]; · iexact H2
  isplitl [HO]; · iexact HO
  iintro ⟨Hw, H2, HO⟩
  rw [wp_bind]
  iapply (phaseWork_run c 2 (fun o b => outNext b o) updNext (fun wo b C O Q => outNext_run c b wo C O Q) W fullShare.right X K V)
  iframe HX HK HV HC Ho
  isplitl [H2]; · iexact H2
  iintro ⟨HX, HK, HV, HC, H2, Ho⟩
  rw [wp_bind]
  iapply (waits_run W κ 2 c)
  isplitr; · iexact HR
  isplitr; · iexact Hlev
  isplitl [Hw]; · iexact Hw
  isplitl [H2]; · iexact H2
  isplitl [HO]; · iexact HO
  iintro ⟨H2, H3, Hz2, HO⟩
  -- phase 3
  iapply (phaseWork_run c 3 (fun o b => outNext b o) updNext (fun wo b C O Q => outNext_run c b wo C O Q) W fullShare X K V)
  iframe HX HK HV HC Ho
  isplitl [H3]; · iexact H3
  iintro ⟨HX, HK, HV, HC, H3, Ho⟩
  iapply Hk
  unfold zeros
  iframe HX HW HK HV Ho HC
  isplitl [HzB Hz0 Hz1 Hz2]
  · isplitl [HzB]; · iexact HzB
    isplitl [Hz0]; · iexact Hz0
    isplitl [Hz1]; · iexact Hz1
    iexact Hz2
  isplitl [HO]; · iexact HO
  iexists (packs W c)
  iapply (Entails.of_eq (slots_eq c (packs W c)).symm)
  isplitl [H0]; · iexact H0
  isplitl [H1]; · iexact H1
  isplitl [H2]; · iexact H2
  iexact H3

end Cert.KernelIdeal.Attn
-- ==== Proof.Region.lean ====
/- The kernel's region: what its windows hold before and after, and the proof that the body takes the one to the other. -/
module

public import proofs.«01_k».proof.Proof.Body
public import proofs.«01_k».proof.Proof.Gen.KernelIdeal.Points
public import proofs.«01_k».proof.Proof.Gen.KernelIdeal.Regions
public import Idealize.ShloMosaic.Lib.Pipeline.RegionTalk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀

variable {F : FTy → Type} [FloatOps F] [Facts]

local notation "𝕄" => MT nD τ sig Unit (Elt F) ℕ UU ℕ

variable (V : Dev nD → Valuation τ sig (Elt F))

/-! ## The contents of the windows -/

/-- Device `c`'s own rows of the input. -/
abbrev inX (c : Dev nD) : Vec F S2x512x768 .f32 := V c main_arg0
/-- Every device's weight pair. -/
abbrev inW (c : Dev nD) : Vec F S2x768x512 .f32 := V c main_v22
/-- Device `c`'s keys, by batch and head. -/
abbrev inK (c : Dev nD) : Vec F S64x512x64 .f32 := V c main_v16
/-- Device `c`'s values, by batch and head. -/
abbrev inV (c : Dev nD) : Vec F S64x512x64 .f32 := V c main_v18
/-- What the kernel leaves in device `c`'s result: it does not depend on what the output window held before. -/
def outV (c : Dev nD) : Vec F S2x512x768 .f32 := outOf c (inW V) (inK V c) (inV V c) (inX V c) (inX V c)

/-- Both rows of the output window are overwritten in the first phase. -/
theorem outOf_any (c : Dev nD) (W : Dev nD → Vec F S2x768x512 .f32) (K U : Vec F S64x512x64 .f32) (X O O' : Vec F S2x512x768 .f32) :
    outOf c W K U X O = outOf c W K U X O' := by
  have h : phaseOf c 0 K U (W (src c 0)) X updFirst O = phaseOf c 0 K U (W (src c 0)) X updFirst O' := by
    unfold phaseOf updFirst putRow
    funext i
    rcases (by decide : ∀ b : Fin 2, b = 0 ∨ b = 1) (i 0) with h | h <;> simp [h]
  unfold outOf
  rw [h]

/-- What the body starts from, beside its windows. -/
def start (c : Dev nD) : sProp 𝕄 :=
  iprop((∃ κ, kit (inW V) κ c) ∗ (∃ P, pt aP c P) ∗ (∃ C, pt aC c C) ∗ ∃ r, prngReg c r)
/-- What it leaves, beside its windows. -/
def finish (c : Dev nD) : sProp 𝕄 := iprop(zeros c ∗ (∃ P, pt aP c P) ∗ (∃ C, pt aC c C) ∗ ∃ r, prngReg c r)

/-- The proof data of the pipeline: the inputs as the host left them, the result as `outV`; the ghost state before the body's one point and the counters
    after it. -/
def dat (c : Dev nD) : Dat τ (Elt F) Unit ℕ UU ℕ cfg0 c where
  A w := V c (Pipeline.arrRef spec0 w)
  after w _ := match w with
    | ⟨0, _⟩ => inX V c
    | ⟨1, _⟩ => inW V c
    | ⟨2, _⟩ => inK V c
    | ⟨3, _⟩ => inV V c
    | ⟨4, _⟩ => outV V c
  Φ t := if t.val = 0 then start V c else finish c
  q _ := fullShare
  owed t := if t.val = 0 then owed₀ c else 0

theorem before0 (c : Dev nD) (t : Fin cfg0.N) (d) : (dat V c).before (0 : Fin 5) t d = inX V c := by
  unfold Dat.before; rw [if_pos (Gen.fetch0_0 t)]
  refine ((dat V c).cut_fetched (0 : Fin 5) t d).trans ?_
  exact Memref.read_access_unit_zero (Elt F) main_arg0 (off := fun a => 0 * (main_arg0 : Ref sig .tc).ty.shape.size a) (funext fun a => Nat.zero_mul _) _ _
theorem before1 (c : Dev nD) (t : Fin cfg0.N) (d) : (dat V c).before (1 : Fin 5) t d = inW V c := by
  unfold Dat.before; rw [if_pos (Gen.fetch0_1 t)]
  refine ((dat V c).cut_fetched (1 : Fin 5) t d).trans ?_
  exact Memref.read_access_unit_zero (Elt F) main_v22 (off := fun a => 0 * (main_v22 : Ref sig .tc).ty.shape.size a) (funext fun a => Nat.zero_mul _) _ _
theorem before2 (c : Dev nD) (t : Fin cfg0.N) (d) : (dat V c).before (2 : Fin 5) t d = inK V c := by
  unfold Dat.before; rw [if_pos (Gen.fetch0_2 t)]
  refine ((dat V c).cut_fetched (2 : Fin 5) t d).trans ?_
  exact Memref.read_access_unit_zero (Elt F) main_v16 (off := fun a => 0 * (main_v16 : Ref sig .tc).ty.shape.size a) (funext fun a => Nat.zero_mul _) _ _
theorem before3 (c : Dev nD) (t : Fin cfg0.N) (d) : (dat V c).before (3 : Fin 5) t d = inV V c := by
  unfold Dat.before; rw [if_pos (Gen.fetch0_3 t)]
  refine ((dat V c).cut_fetched (3 : Fin 5) t d).trans ?_
  exact Memref.read_access_unit_zero (Elt F) main_v18 (off := fun a => 0 * (main_v18 : Ref sig .tc).ty.shape.size a) (funext fun a => Nat.zero_mul _) _ _

theorem owed_first (c : Dev nD) : (dat V c).owed 0 = owed₀ c := rfl
theorem owed_last (c : Dev nD) (t : Fin cfg0.N) : (dat V c).owed t.succ = 0 := rfl

theorem isIn : ∀ w : Fin 5, w.val < 4 → (cfg0.win w).isOut = false
  | 0, _ => rfl | 1, _ => rfl | 2, _ => rfl | 3, _ => rfl | 4, h => absurd h (by decide)
/-- The windows' arrays after the region. -/
theorem arr_in (c : Dev nD) (w : Fin 5) (hw : w.val < 4) (n : ℕ) : (dat V c).arrAt w n = V c (Pipeline.arrRef spec0 w) :=
  (dat V c).arrAt_in w (isIn w hw) n
theorem arr_out (c : Dev nD) : (dat V c).arrAt (4 : Fin 5) cfg0.N = outV V c := by
  rw [show (dat V c).arrAt (4 : Fin 5) cfg0.N = (dat V c).arrAt (4 : Fin 5) (0 + 1) from congrArg _ Gen.N_0]
  unfold Dat.arrAt
  dsimp only
  rw [dif_pos (by rw [show cfg0.N = 1 from Gen.N_0]; decide), if_pos (Gen.flush0_4 _)]
  exact Memref.write_access_unit_zero_univ (Elt F) main_v23 (off := fun a => 0 * (main_v23 : Ref sig .tc).ty.shape.size a) (funext fun a => Nat.zero_mul _) _ _ _

/-! ## The body -/

theorem first_val (t : Fin cfg0.N) : t.castSucc.val = 0 := by obtain rfl := Gen.fin_N0 t; rfl
theorem Φ_first (c : Dev nD) (t : Fin cfg0.N) : (dat V c).Φ t.castSucc = start V c := if_pos (first_val t)
theorem Φ_succ (c : Dev nD) (t : Fin cfg0.N) : (dat V c).Φ t.succ = finish c := rfl
theorem owed_castSucc (c : Dev nD) (t : Fin cfg0.N) : (dat V c).owed t.castSucc = owed₀ c := if_pos (first_val t)

/-- The body takes the windows' contents before it to those after it. -/
theorem body_obligation (c : Dev nD) : BodyObligation (dat V c) (defs₀ (F := F)) 𝒱₀ () Set.univ := fun t => by
  rw [Gen.bigSep_W0, Gen.bigSep_W0, Φ_first, Φ_succ]
  show iprop(start V c
      ∗ (dat V c).owesAt () t.castSucc
      ∗ (∃ d, owns (c : Thread nD τ) aX fullShare ((dat V c).before (0 : Fin 5) t d))
      ∗ (∃ d, owns (c : Thread nD τ) aW fullShare ((dat V c).before (1 : Fin 5) t d))
      ∗ (∃ d, owns (c : Thread nD τ) aK fullShare ((dat V c).before (2 : Fin 5) t d))
      ∗ (∃ d, owns (c : Thread nD τ) aV fullShare ((dat V c).before (3 : Fin 5) t d))
      ∗ (∃ d, owns (c : Thread nD τ) aO fullShare ((dat V c).before (4 : Fin 5) t d)))
    ⊢ wp frame (wpE (defs₀ (F := F)) 𝒱₀ (c : Thread nD τ) none) Set.univ (Gen.bodyAt0 t) (fun _ =>
      iprop(finish c
        ∗ (dat V c).owesAt () t.succ
        ∗ owns (c : Thread nD τ) aX fullShare (inX V c)
        ∗ owns (c : Thread nD τ) aW fullShare (inW V c)
        ∗ owns (c : Thread nD τ) aK fullShare (inK V c)
        ∗ owns (c : Thread nD τ) aV fullShare (inV V c)
        ∗ owns (c : Thread nD τ) aO fullShare (outV V c)))
  simp only [before0, before1, before2, before3, owns_whole, body_eq]
  unfold start finish Dat.owesAt Pipeline.owesWithin
  rw [owed_castSucc, owed_last]
  iintro ⟨⟨⟨%κ, Hk⟩, HP, HC, Hr⟩, ⟨%Wd, -, Ho⟩, ⟨%d0, H0⟩, ⟨%d1, H1⟩, ⟨%d2, H2⟩, ⟨%d3, H3⟩, ⟨%d4, H4⟩⟩
  iapply (prog_run (inW V) κ c (inX V c) (inK V c) (inV V c) ((dat V c).before (4 : Fin 5) t d4) Wd _)
  isplitl [Hk]; · iexact Hk
  isplitl [Ho]; · iexact Ho
  isplitl [H0 H1 H2 H3 H4]
  · isplitl [H0]; · iexact H0
    isplitl [H1]; · iexact H1
    isplitl [H2]; · iexact H2
    isplitl [H3]; · iexact H3
    iexact H4
  isplitl [HP]; · iexact HP
  isplitl [HC]; · iexact HC
  iintro ⟨Hz, ⟨%Wd', Ho⟩, ⟨H0, H1, H2, H3, H4⟩, HP, HC⟩
  rw [outOf_any c (inW V) (inK V c) (inV V c) (inX V c) ((dat V c).before (4 : Fin 5) t d4) (inX V c)]
  isplitl [Hz HP HC Hr]
  · isplitl [Hz]; · iexact Hz
    isplitl [HP]; · iexact HP
    isplitl [HC]; · iexact HC
    iexact Hr
  isplitl [Ho]
  · iexists Wd'
    isplitr; · ipureintro; exact fun _ _ => Or.inl trivial
    iexact Ho
  isplitl [H0]; · iexact H0
  isplitl [H1]; · iexact H1
  isplitl [H2]; · iexact H2
  isplitl [H3]; · iexact H3
  iexact H4

/-! ## The region -/

/-- What the launch keeps for phase `h`: the rights to open the phase's own semaphores, to pay the device's own send
    semaphore and the right neighbour's receive semaphore, and the credit of the device's own receive semaphore. -/
def dormant (h : Fin 3) (c : Dev nD) : sProp 𝕄 :=
  iprop(openTok ER (cellS h c) ∗ openTok ER (cellR h c) ∗ dutyTok ER (cellS h c) 0 true ∗ dutyTok ER (cellR h (nxt c)) 0 true
    ∗ cred (tallyAt (cellR h c) () Ncr))
/-- What the launch keeps for the region. -/
def kept (c : Dev nD) : sProp 𝕄 :=
  iprop((∃ κ, records (inW V) κ) ∗ barKit c ∗ three (fun h => dormant h c))
/-- What the region's body gets of it. -/
def opened (c : Dev nD) : sProp 𝕄 := iprop(∃ κ, kit (inW V) κ c)
/-- What the region leaves: the handshake's counter at zero. -/
def closed (c : Dev nD) : sProp 𝕄 := semVal (cellB c) 0

theorem open_phase (κ : GSem nD τ sig → ℕ) (h : Fin 3) (c : Dev nD) :
    iprop(records (inW V) κ ∗ dormant h c ∗ semVal (cellS h c) 0 ∗ semVal (cellR h c) 0)
      ⊢ (|={Set.univ}=> (phaseKit h c ∗ reached ER (cellR h c) 0) : sProp 𝕄) := by
  unfold dormant phaseKit
  iintro ⟨#HR, ⟨HoS, HoR, HtS, HtR, Hc⟩, HS, HV⟩
  ihave #HIs := (inv_of (inW V) κ (mem_S h c)) $$ HR
  ihave #HIr := (inv_of (inW V) κ (mem_R h c)) $$ HR
  imod (Rounds.cell_open ER (talk (inW V)) (g := cellS h c) (Set.mem_univ (κ (cellS h c)))) $$ [HoS HS] with ⟨HatS, #HrS⟩
  · isplitr; · iexact HIs
    isplitl [HoS] <;> iassumption
  imod (Rounds.cell_open ER (talk (inW V)) (g := cellR h c) (Set.mem_univ (κ (cellR h c)))) $$ [HoR HV] with ⟨HatR, #HrR⟩
  · isplitr; · iexact HIr
    isplitl [HoR] <;> iassumption
  imodintro
  isplitr []
  · isplitl [HatS]; · iexact HatS
    isplitl [HatR]; · iexact HatR
    isplitr; · iexact HrS
    isplitl [HtS]; · iexact HtS
    isplitl [HtR]; · iexact HtR
    iexact Hc
  iexact HrR

/-- The copies' counters, by phase. -/
theorem ownSems_eq (c : Dev nD) : (Pipeline.ownSems0 osem c : sProp 𝕄)
    = iprop(three (fun h => semVal (cellS h c) 0) ∗ three (fun h => semVal (cellR h c) 0)) := by
  unfold Pipeline.ownSems0
  rw [bigSep_univ_prod, BI.bigSep_fin_two, bigSep_three, bigSep_three]
  rfl

theorem region_open (c : Dev nD) :
    iprop(kept V c ∗ Pipeline.ownSems0 osem c ∗ levAts L lv) ⊢ (|={Set.univ}=> opened V c : sProp 𝕄) := by
  rw [ownSems_eq]
  unfold kept opened kit
  iintro ⟨⟨⟨%κ, #HR⟩, Hb, H0, H1, H2⟩, ⟨⟨S0, S1, S2⟩, R0, R1, R2⟩, #Hlev⟩
  imod (open_phase V κ 0 c) $$ [H0 S0 R0] with ⟨P0, r0⟩
  · isplitr; · iexact HR
    isplitl [H0]; · iexact H0
    isplitl [S0] <;> iassumption
  imod (open_phase V κ 1 c) $$ [H1 S1 R1] with ⟨P1, r1⟩
  · isplitr; · iexact HR
    isplitl [H1]; · iexact H1
    isplitl [S1] <;> iassumption
  imod (open_phase V κ 2 c) $$ [H2 S2 R2] with ⟨P2, r2⟩
  · isplitr; · iexact HR
    isplitl [H2]; · iexact H2
    isplitl [S2] <;> iassumption
  imodintro
  iexists κ
  isplitr; · iexact HR
  isplitr; · iexact Hlev
  isplitl [Hb]; · iexact Hb
  isplitl [P0 P1 P2]
  · isplitl [P0]; · iexact P0
    isplitl [P1] <;> iassumption
  isplitl [r0]; · iexact r0
  isplitl [r1] <;> iassumption

theorem region_in (c : Dev nD) :
    iprop(Pipeline.scopedRest spec0 c ∗ (∃ r, prngReg c r) ∗ StableHlo.held (c.tc : Thread nD τ) ∅ (V c) ∗ opened V c) ⊢ start V c := by
  rw [Gen.scopedRest0_eq c]
  unfold start opened
  iintro ⟨⟨HP, HC⟩, Hr, -, Hk⟩
  isplitl [Hk]; · iexact Hk
  isplitl [HP]; · iexact HP
  isplitl [HC]; · iexact HC
  iexact Hr

theorem region_out (c : Dev nD) (V' : Valuation τ sig (Elt F)) :
    finish c ⊢ iprop(Pipeline.scopedRest spec0 c ∗ (∃ r, prngReg c r) ∗ StableHlo.held (c.tc : Thread nD τ) ∅ V'
      ∗ Pipeline.ownSems0 osem c ∗ closed c) := by
  rw [Gen.scopedRest0_eq c, ownSems_eq]
  unfold finish zeros closed
  iintro ⟨⟨Hb, ⟨S0, R0⟩, ⟨S1, R1⟩, S2, R2⟩, HP, HC, Hr⟩
  isplitl [HP HC]; · isplitl [HP] <;> iassumption
  isplitl [Hr]; · iexact Hr
  isplitr
  · unfold StableHlo.held; rw [BI.bigSep_empty]; iempintro
  isplitr [Hb]
  · isplitl [S0 S1 S2]
    · isplitl [S0]; · iexact S0
      isplitl [S1] <;> iassumption
    isplitl [R0]; · iexact R0
    isplitl [R1] <;> iassumption
  iexact Hb

/-- The buffers after the region: the result's array as `outV`, the others as before. -/
def VN (c : Dev nD) : Valuation τ sig (Elt F) := Function.update (V c) main_v23 (outV V c)
theorem VN_out (c : Dev nD) : VN V c main_v23 = outV V c := Function.update_self ..
theorem VN_of (c : Dev nD) (r : Ref sig .tc) (h : r ≠ main_v23) : VN V c r = V c r :=
  Function.update_of_ne (StableHlo.devRef_ne_of_ne h) ..

/-- The windows' arrays, and the other buffers. -/
abbrev arrs : Finset (DevRef τ sig) := Pipeline.arrRefs (τ := τ) spec0
abbrev others : Finset (DevRef τ sig) := Pipeline.ucRefs τ sig \ arrs

theorem dma_scoped : ∀ s : DmaSem sig, 5 ≤ s.val → (SemLoc.dma s : SemLoc sig).isScoped .tc = true := by decide
theorem stage_sem_lt : ∀ (w : Fin 5) (s : Fin (spec0 w).nbuf), ((spec0 w).sem s).val < 5 := by decide
theorem osem_dma (k : Fin 2 × Fin 3) : ∃ s : DmaSem sig, 5 ≤ s.val ∧ osem k = .dma s := by
  unfold osem
  split
  · exact ⟨semS k.2, by rw [semS_val]; omega, rfl⟩
  · exact ⟨semR k.2, by rw [semR_val]; omega, rfl⟩
theorem ownFacts : Pipeline.OwnSemFacts spec0 osem where
  isScoped k := by obtain ⟨s, hs, h⟩ := osem_dma k; rw [h]; exact dma_scoped s hs
  inj := osem_inj
  disj k w s h := by
    obtain ⟨d, hd, hk⟩ := osem_dma k
    have hlt := stage_sem_lt w s
    rw [← SemLoc.dma.inj (hk.symm.trans h)] at hlt
    omega

/-- The program's one pipeline. -/
abbrev pdats (p : Fin 1) (c : Dev nD) : Dat τ (Elt F) Unit ℕ UU ℕ (Pipeline.pin (pcfgs (F := F)) Gen.adm p) c :=
  match p with | ⟨0, _⟩ => dat V c

theorem arr_after (c : Dev nD) (w : Fin 5) : (dat V c).arrAt w cfg0.N = VN V c (Pipeline.arrRef spec0 w) := by
  fin_cases w
  · exact (arr_in V c 0 (by decide) _).trans (VN_of V c main_arg0 (by decide)).symm
  · exact (arr_in V c 1 (by decide) _).trans (VN_of V c main_v22 (by decide)).symm
  · exact (arr_in V c 2 (by decide) _).trans (VN_of V c main_v16 (by decide)).symm
  · exact (arr_in V c 3 (by decide) _).trans (VN_of V c main_v18 (by decide)).symm
  · exact (arr_out V c).trans (VN_out V c).symm

theorem last_ne : ¬ (Fin.last cfg0.N).val = 0 := by
  show ¬ grid0.N = 0
  rw [Gen.N_0]; decide
theorem Φ_end (c : Dev nD) : (dat V c).Φ (Fin.last cfg0.N) = finish c :=
  (if_neg last_ne : (if (Fin.last cfg0.N).val = 0 then start V c else finish c) = finish c)
theorem owed_end (c : Dev nD) : (dat V c).owed (Fin.last cfg0.N) = 0 :=
  (if_neg last_ne : (if (Fin.last cfg0.N).val = 0 then owed₀ c else 0) = 0)
theorem owed_within (c : Dev nD) (t : Fin (cfg0.N + 1)) (g : GSem nD τ sig) (u : Unit) (h : 0 < (dat V c).owed t g u) :
    u ∈ L g ∧ 0 < lv g u := by
  by_cases ht : t.val = 0
  · exact owed₀_pos (c := c) (by rwa [show (dat V c).owed t = owed₀ c from if_pos ht] at h)
  · rw [show (dat V c).owed t = 0 from if_neg ht] at h
    exact absurd h (Nat.lt_irrefl 0)

theorem main_out_arr : (Proc.devRef .tc main_v23 : DevRef τ sig) ∈ arrs := by decide

theorem out_not_other {b : DevRef τ sig} (hb : b ∈ others \ ∅) : b ≠ Proc.devRef .tc main_v23 := fun h =>
  (Finset.mem_sdiff.mp (Finset.mem_sdiff.mp hb).1).2 (by rw [h]; exact main_out_arr)
theorem share_full (c : Dev nD) (w : Fin 5) : (dat V c).share w = fullShare := by unfold Dat.share; split <;> rfl

theorem stage_lv (c : Dev nD) (w : Fin 5) (s : Fin (spec0 w).nbuf) : lv ((c : Thread nD τ), .dma ((spec0 w).sem s)) () ≤ 0 := by
  have := stage_sem_lt w s
  unfold lv role
  dsimp only
  rw [if_neg (by omega), if_neg (by omega), if_neg (by omega), if_neg (by omega), if_neg (by omega), if_neg (by omega)]

set_option backward.isDefEq.respectTransparency.types false in
/-- The region's record. -/
def region : Pipeline.RegionSeg (pcfgs (F := F)) Gen.adm (pdats V) () (defs₀ (F := F)) 𝒱₀ L lv 0 :=
  Pipeline.RegionSeg.ofTalk (pcfgs (F := F)) Gen.adm (pdats V) () defs₀ 𝒱₀ L lv 0 osem ownFacts
    ∅ others (Finset.empty_subset _) Gen.launch0.toP rfl (fun c => (body_obligation V c).loose)
    (fun _ => 0) owed₀ (fun c => (owed_first V c).trans (zero_add _).symm) (owed_end V) (fun _ => rfl) (share_full V)
    V (VN V) (fun c b hb => Function.update_of_ne (out_not_other hb) ..)
    (kept V) closed (opened V) closed (region_open V) (region_in V) (fun c => (Entails.of_eq (Φ_end V c)).trans (region_out c (VN V c)))
    (fun c => by iintro H; imodintro; iexact H)
    (fun _ => 0)
    ⟨fun c w s => by rw [L_tc]; exact Finset.mem_singleton_self _, stage_lv, fun c t g u h => owed_within V c t g u h⟩
    (fun _ => iprop(emp))
    (fun _ _ => rfl) (arr_after V)

end Cert.KernelIdeal.Attn
-- ==== Proof.Deal.lean ====
/- The launch: how the rights to pay and to wait, and the credit, are dealt to the devices. -/
module

public import proofs.«01_k».proof.Proof.Region

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀

variable {F : FTy → Type} [FloatOps F] [Facts]

local notation "𝕄" => MT nD τ sig Unit (Elt F) ℕ UU ℕ

/-! ## The rights to pay -/

/-- The payments of the protocol: two on each handshake semaphore, one on each semaphore of a copy. -/
def payEmb : Dev nD × (Bool ⊕ (Fin 2 × Fin 3)) ↪ GSem nD τ sig × ℕ × Bool where
  toFun x := match x.2 with
    | .inl b => (cellB x.1, 0, b)
    | .inr k => (((x.1 : Thread nD τ), osem k), 0, true)
  inj' := by
    have hne : ∀ k, osem k ≠ .reg semB := fun k h => by
      obtain ⟨s, -, hk⟩ := osem_dma k
      rw [hk] at h; exact absurd h (by simp)
    rintro ⟨c, a⟩ ⟨d, b⟩ h
    have hcd : c = d := by
      cases a <;> cases b <;> exact congrArg (fun t : GSem nD τ sig × ℕ × Bool => t.1.1.1) h
    subst hcd
    have hsem := congrArg (fun t : GSem nD τ sig × ℕ × Bool => t.1.2) h
    cases a <;> cases b <;> dsimp only at hsem
    · exact congrArg (fun b => (c, Sum.inl b)) (congrArg (fun t : GSem nD τ sig × ℕ × Bool => t.2.2) h)
    · exact absurd hsem.symm (hne _)
    · exact absurd hsem (hne _)
    · exact congrArg (fun k => (c, Sum.inr k)) (osem_inj hsem)
/-- All payments. -/
abbrev pays : Finset (GSem nD τ sig × ℕ × Bool) := Finset.univ.map payEmb

/-- The rights to pay on the semaphores of device `c`. -/
def paysOf (c : Dev nD) : sProp 𝕄 :=
  iprop((dutyTok ER (cellB c) 0 true ∗ dutyTok ER (cellB c) 0 false)
    ∗ three (fun h => dutyTok ER (cellS h c) 0 true) ∗ three (fun h => dutyTok ER (cellR h c) 0 true))
/-- The rights to pay that device `c` gets. -/
def paysBy (c : Dev nD) : sProp 𝕄 :=
  iprop((dutyTok ER (cellB (prv c)) 0 true ∗ dutyTok ER (cellB (nxt c)) 0 false)
    ∗ three (fun h => dutyTok ER (cellS h c) 0 true) ∗ three (fun h => dutyTok ER (cellR h (nxt c)) 0 true))

theorem bigSep_bool (Φ : Bool → sProp 𝕄) : bigSep Finset.univ Φ = iprop(Φ true ∗ Φ false) := by
  rw [show (Finset.univ : Finset Bool) = {true, false} from by decide, bigSep_insert (by decide), bigSep_singleton]
  rfl

theorem pays_eq : bigSep pays (fun x => (dutyTok ER x.1 x.2.1 x.2.2 : sProp 𝕄)) = bigSep Finset.univ fun c : Dev nD => paysOf c := by
  rw [bigSep_map, bigSep_univ_prod]
  refine bigSep_congr fun c _ => ?_
  unfold paysOf
  rw [bigSep_univ_sum, bigSep_bool, bigSep_univ_prod, BI.bigSep_fin_two, bigSep_three, bigSep_three]
  rfl

/-- The ring as a permutation of the devices. -/
def ring : Dev nD ≃ Dev nD := ⟨nxt, prv, prv_nxt, nxt_prv⟩

/-- Each right to pay, to the device that pays. -/
theorem pays_around : (bigSep Finset.univ fun c : Dev nD => (paysOf c : sProp 𝕄)) = bigSep Finset.univ fun c : Dev nD => paysBy c := by
  unfold paysOf paysBy three
  simp only [bigSep_sep']
  rw [bigSep_univ_equiv ring.symm (fun c : Dev nD => (dutyTok ER (cellB c) 0 true : sProp 𝕄)),
    bigSep_univ_equiv ring (fun c : Dev nD => (dutyTok ER (cellB c) 0 false : sProp 𝕄)),
    bigSep_univ_equiv ring (fun c : Dev nD => (dutyTok ER (cellR 0 c) 0 true : sProp 𝕄)),
    bigSep_univ_equiv ring (fun c : Dev nD => (dutyTok ER (cellR 1 c) 0 true : sProp 𝕄)),
    bigSep_univ_equiv ring (fun c : Dev nD => (dutyTok ER (cellR 2 c) 0 true : sProp 𝕄))]
  rfl

/-! ## The credit -/

theorem cellB_iff (c d : Dev nD) : cellB c = cellB d ↔ c = d :=
  ⟨fun h => congrArg (fun g : GSem nD τ sig => g.1.1) h, fun h => h ▸ rfl⟩
theorem semR_inj {h j : Fin 3} (e : semR h = semR j) : h = j := by
  have := congrArg Fin.val e
  rw [semR_val, semR_val] at this
  exact Fin.ext (by omega)
theorem cellR_iff (h j : Fin 3) (c d : Dev nD) : cellR h c = cellR j d ↔ h = j ∧ c = d :=
  ⟨fun e => ⟨semR_inj (SemLoc.dma.inj (congrArg Prod.snd e)), congrArg (fun g : GSem nD τ sig => g.1.1) e⟩,
    fun ⟨a, b⟩ => a ▸ b ▸ rfl⟩
theorem cellB_ne_cellR (h : Fin 3) (c d : Dev nD) : cellB c ≠ cellR h d := fun e => by
  have := congrArg Prod.snd e
  exact absurd this (by simp)

theorem from_prv (c d : Dev nD) : c = nxt d ↔ d = prv c :=
  ⟨fun h => by rw [h, prv_nxt], fun h => by rw [h, nxt_prv]⟩
theorem from_nxt (c d : Dev nD) : c = prv d ↔ d = nxt c :=
  ⟨fun h => by rw [h, nxt_prv], fun h => by rw [h, prv_nxt]⟩

/-- What device `d` owes to device `c`'s handshake semaphore. -/
theorem owed_B (d c : Dev nD) : owed₀ d (cellB c) () = (if d = prv c then 1 else 0) + (if d = nxt c then 1 else 0) := by
  rw [← if_congr (from_prv c d) rfl rfl, ← if_congr (from_nxt c d) rfl rfl]
  unfold owed₀ owing debt
  simp only [Pi.add_apply, Finsupp.add_apply, tallyAt_apply, cellB_iff, cellB_ne_cellR, false_and, and_true, if_false]
  simp
/-- What device `d` owes to device `c`'s receive semaphore of phase `h`. -/
theorem owed_R (h : Fin 3) (d c : Dev nD) : owed₀ d (cellR h c) () = if d = prv c then Ncr else 0 := by
  rw [← if_congr (from_prv c d) rfl rfl]
  unfold owed₀ owing debt
  simp only [Pi.add_apply, Finsupp.add_apply, tallyAt_apply, cellR_iff, (cellB_ne_cellR _ _ _).symm, false_and, and_true, if_false]
  fin_cases h <;> simp

theorem credit_B (c : Dev nD) :
    tallyOn (cellB c) (launchCredit (Pipeline.owing owed₀) 0 (cellB c)) = (tallyAt (cellB c) () 2 : CellTallies nD τ sig Unit) := by
  unfold tallyAt; refine congrArg _ (Finsupp.ext fun u => ?_); cases u
  rw [Pipeline.launchCredit_owing, Finsupp.single_eq_same]
  rw [Finset.sum_congr rfl fun d _ => owed_B d c, Finset.sum_add_distrib, Finset.sum_ite_eq', Finset.sum_ite_eq', if_pos (Finset.mem_univ _), if_pos (Finset.mem_univ _)]
theorem credit_R (h : Fin 3) (c : Dev nD) :
    tallyOn (cellR h c) (launchCredit (Pipeline.owing owed₀) 0 (cellR h c)) = (tallyAt (cellR h c) () Ncr : CellTallies nD τ sig Unit) := by
  unfold tallyAt; refine congrArg _ (Finsupp.ext fun u => ?_); cases u
  rw [Pipeline.launchCredit_owing, Finsupp.single_eq_same]
  rw [Finset.sum_congr rfl fun d _ => owed_R h d c, Finset.sum_ite_eq', if_pos (Finset.mem_univ _)]

/-- The receive semaphores, as a family. -/
def recvEmb : Fin 3 ↪ SemLoc sig := ⟨fun h => .dma (semR h), fun _ _ e => semR_inj (SemLoc.dma.inj e)⟩
theorem bar_not_recv : (SemLoc.reg semB : SemLoc sig) ∉ Finset.univ.map recvEmb := fun h => by
  obtain ⟨j, -, e⟩ := Finset.mem_map.mp h
  exact absurd e (by simp [recvEmb])

/-- The launch's credit: two on the own handshake semaphore, a copy's on each own receive semaphore. -/
theorem credits (c : Dev nD) : (Pipeline.launchCred owed₀ c : sProp 𝕄)
    ⊢ iprop(cred (tallyAt (cellB c) () 2) ∗ three (fun h => cred (tallyAt (cellR h c) () Ncr))) := by
  unfold Pipeline.launchCred
  refine (bigSep_subset (Finset.subset_univ (insert (SemLoc.reg semB) (Finset.univ.map recvEmb)))).trans ?_
  rw [bigSep_insert bar_not_recv, bigSep_map, bigSep_three]
  exact BI.sep_mono (Entails.of_eq (congrArg cred (credit_B c)))
    (Entails.of_eq (congrArg three (funext fun h => congrArg cred (credit_R h c))))

/-! ## The launch element -/

/-- The launch element: the pipeline's part, and the protocol's with all its payments. -/
def u₀ : UU :=
  (initOf (Pipeline.cells (Pipeline.pin (pcfgs (F := F)) Gen.adm) Gen.cellOf_inj)
      (Pipeline.launchToks (Pipeline.pin (pcfgs (F := F)) Gen.adm) Gen.cellOf_inj),
    launchOf barCells cpyCells pays)

/-- The protocol's part, held by device 0 until it is dealt. -/
def lot (c : Dev nD) : sProp 𝕄 := if c = 0 then BI.own (ER (launchOf barCells cpyCells pays)) else iprop(emp)
theorem lot_eq : bigSep Finset.univ (lot (F := F)) = BI.own (ER (launchOf barCells cpyCells pays)) := by
  rw [bigSep_univ_split (0 : Dev nD), bigSep_congr (s := Finset.univ.erase (0 : Dev nD)) (Ψ := fun _ => (BI.emp : sProp 𝕄))
    fun c hc => (by unfold lot; exact if_neg (Finset.ne_of_mem_erase hc)), BI.bigSep_emp_const]
  exact (BI.equiv_iff.mp sep_emp).trans (if_pos rfl)

theorem launch_elem : (ownU (u₀ (F := F)) : sProp 𝕄) ⊢ |={Set.univ}=> iprop(BI.own (EP (initOf (Pipeline.cells (Pipeline.pin (pcfgs (F := F)) Gen.adm) Gen.cellOf_inj)
    (Pipeline.launchToks (Pipeline.pin (pcfgs (F := F)) Gen.adm) Gen.cellOf_inj))) ∗ bigSep Finset.univ (lot (F := F))) := by
  rw [lot_eq]
  unfold u₀
  iintro Hu
  ihave H := (ownU_pair _ _) $$ Hu
  icases H with ⟨HP, HX⟩
  imodintro
  isplitl [HP]; · iexact HP
  iexact HX

/-! ## What each device gets -/

variable (V : Dev nD → Valuation τ sig (Elt F))

/-- What a device brings to the launch, beside its buffers. -/
def brought (c : Dev nD) : sProp 𝕄 :=
  iprop((cred (tallyAt (cellB c) () 2) ∗ three (fun h => cred (tallyAt (cellR h c) () Ncr)))
    ∗ owes (c : Thread nD τ) (owed₀ c) ∅ ∗ ∃ r, prngReg c r)
/-- What it is dealt. -/
def dealt (c : Dev nD) : sProp 𝕄 :=
  iprop(atPos ER (cellB c) 0 ∅ 0 ∗ (three (fun h => openTok ER (cellS h c)) ∗ three (fun h => openTok ER (cellR h c))) ∗ paysBy c)
/-- What it goes on with: what is kept for the region, its generator's register and its debts. -/
def carried (c : Dev nD) : sProp 𝕄 :=
  iprop(kept V c ∗ (∃ r, prngReg c r) ∗ ∃ Wd, owes (c : Thread nD τ) (owed₀ c) Wd)

theorem carried_intro (κ : GSem nD τ sig → ℕ) (c : Dev nD) :
    iprop(records (inW V) κ ∗ (dealt c ∗ brought c)) ⊢ carried V c := by
  unfold dealt brought carried kept barKit dormant paysBy
  iintro ⟨#HR, ⟨Hat, ⟨⟨S0, S1, S2⟩, R0, R1, R2⟩, ⟨Bt, Bf⟩, ⟨s0, s1, s2⟩, r0, r1, r2⟩, ⟨Cb, C0, C1, C2⟩, HO, Hp⟩
  isplitr [Hp HO]
  · isplitr; · iexists κ; iexact HR
    isplitl [Hat Bt Bf Cb]
    · isplitl [Hat]; · iexact Hat
      isplitl [Bt]; · iexact Bt
      isplitl [Bf] <;> iassumption
    isplitl [S0 R0 s0 r0 C0]
    · isplitl [S0]; · iexact S0
      isplitl [R0]; · iexact R0
      isplitl [s0]; · iexact s0
      isplitl [r0] <;> iassumption
    isplitl [S1 R1 s1 r1 C1]
    · isplitl [S1]; · iexact S1
      isplitl [R1]; · iexact R1
      isplitl [s1]; · iexact s1
      isplitl [r1] <;> iassumption
    isplitl [S2]; · iexact S2
    isplitl [R2]; · iexact R2
    isplitl [s2]; · iexact s2
    isplitl [r2] <;> iassumption
  isplitl [Hp]; · iexact Hp
  iexists ∅; iexact HO

theorem unscoped_eq (c : Dev nD) : (unscopedSems0 c : sProp 𝕄) = semVal (cellB c) 0 := by
  unfold unscopedSems0
  rw [show (Finset.univ.filter fun sm : SemLoc sig => ¬ sm.isScoped .tc) = {SemLoc.reg semB} from by decide, BI.bigSep_singleton]

theorem own_of_unscoped (ρ : Dev nD → PrngReg) (c : Dev nD) :
    iprop(unscopedSems0 c ∗ owes (c : Thread nD τ) (owed₀ c) ∅ ∗ Pipeline.launchCred owed₀ c ∗ prngReg c (ρ c) ∗ lot c)
      ⊢ (iprop(brought c ∗ (semVal (cellB c) 0 ∗ lot c)) : sProp 𝕄) := by
  rw [unscoped_eq]
  unfold brought
  iintro ⟨Hs, HO, Hc, Hp, Hl⟩
  ihave Hc := (credits (F := F) c) $$ Hc
  isplitl [HO Hc Hp]
  · isplitl [Hc]; · iexact Hc
    isplitl [HO]; · iexact HO
    iexists (ρ c); iexact Hp
  isplitl [Hs] <;> iassumption

theorem bars_eq (Φ : GSem nD τ sig → sProp 𝕄) : bigSep barCells Φ = bigSep Finset.univ fun c : Dev nD => Φ (cellB c) :=
  bigSep_map (s := Finset.univ) barEmb
theorem opens_eq : bigSep cpyCells (fun g => (openTok ER g : sProp 𝕄))
    = bigSep Finset.univ fun c : Dev nD => iprop(three (fun h => openTok ER (cellS h c)) ∗ three (fun h => openTok ER (cellR h c))) := by
  rw [bigSep_map, bigSep_univ_prod]
  refine bigSep_congr fun c _ => ?_
  rw [bigSep_univ_prod, BI.bigSep_fin_two, bigSep_three, bigSep_three]
  rfl

/-- The deal, over all devices at once. -/
theorem deal (ρ : Dev nD → PrngReg) :
    iprop((bigSep Finset.univ fun c : Dev nD => iprop(unscopedSems0 c ∗ owes (c : Thread nD τ) (owed₀ c) ∅ ∗ Pipeline.launchCred owed₀ c
        ∗ prngReg c (ρ c) ∗ lot c)) ∗ levAts L lv)
      ⊢ (|={Set.univ}=> bigSep Finset.univ (carried V) : sProp 𝕄) := by
  have hown : (bigSep Finset.univ fun c : Dev nD => iprop(unscopedSems0 c ∗ owes (c : Thread nD τ) (owed₀ c) ∅ ∗ Pipeline.launchCred owed₀ c
        ∗ prngReg c (ρ c) ∗ lot c)) ⊢ (bigSep Finset.univ fun c : Dev nD => iprop(brought c ∗ (semVal (cellB c) 0 ∗ lot c)) : sProp 𝕄) :=
    bigSep_mono fun c _ => own_of_unscoped ρ c
  iintro ⟨H, -⟩
  ihave H' := hown $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (lot_eq (F := F))) $$ HG
  ihave Hv' := (Entails.of_eq (bars_eq (F := F) fun g => semVal g 0).symm) $$ Hv
  imod (Rounds.fund_launch ER (talk (inW V)) disjoint_cells (fun g _ h => h) pays) $$ [Hv' Hu] with ⟨%κ, -, #Hinv, #Hr, Hat, Hopen, Htok⟩
  · isplitl [Hv']
    · iexact Hv'
    · iexact Hu
  imodintro
  iapply (bigSep_with_persistent (R := records (inW V) κ) (Φ := fun c => iprop(dealt c ∗ brought c)) fun c _ => carried_intro V κ c)
  isplitr
  · unfold records
    isplitr; · iexact Hinv
    iexact Hr
  iapply (Entails.of_eq (bigSep_sep' _ _ _).symm)
  isplitr [HB]
  · unfold dealt
    iapply (Entails.of_eq (bigSep_sep' _ _ _).symm); isplitl [Hat]; · iapply (Entails.of_eq (bars_eq (F := F) fun g => atPos ER g 0 ∅ 0)) $$ Hat
    iapply (Entails.of_eq (bigSep_sep' _ _ _).symm); isplitl [Hopen]; · iapply (Entails.of_eq (opens_eq (F := F))) $$ Hopen
    iapply (Entails.of_eq ((pays_eq (F := F)).trans pays_around)) $$ Htok
  · iexact HB

end Cert.KernelIdeal.Attn
-- ==== Proof.Run.lean ====
/- The whole program's run: the host's operations, then the kernel on the four devices. -/
module

public import proofs.«01_k».proof.Proof.Deal

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Facts₀

variable {F : FTy → Type} [FloatOps F] [Facts]

local notation "𝕄" => MT nD τ sig Unit (Elt F) ℕ UU ℕ

/-! ## Into the region and out of it -/

section Ends

variable (V : Dev nD → Valuation τ sig (Elt F))

theorem arrs_sub : (arrs : Finset (DevRef τ sig)) ⊆ Pipeline.ucRefs τ sig := by decide

theorem region_pre (c : Dev nD) :
    iprop(StableHlo.held (c : Thread nD τ) (Pipeline.ucRefs τ sig) (V c) ∗ carried V c) ⊢ (region V).pre c := by
  show _ ⊢ iprop(StableHlo.held (c.tc : Thread nD τ) arrs (V c) ∗ (∃ r, prngReg c r)
    ∗ (StableHlo.held (c.tc : Thread nD τ) others (V c) ∗ emp) ∗ kept V c ∗ ∃ Wd, owes (c : Thread nD τ) (0 + owed₀ c) Wd)
  rw [StableHlo.held_sub_split (c : Thread nD τ) arrs_sub (V c), zero_add]
  unfold carried
  iintro ⟨⟨Ha, Ho⟩, Hk, Hp, HO⟩
  isplitl [Ha]; · iexact Ha
  isplitl [Hp]; · iexact Hp
  isplitl [Ho]
  · isplitl [Ho]; · iexact Ho
    iempintro
  isplitl [Hk]; · iexact Hk
  iexact HO

theorem region_post (c : Dev nD) : (region V).post c
    ⊢ iprop((StableHlo.held (c : Thread nD τ) (Pipeline.ucRefs τ sig) (VN V c) ∗ closed c)
      ∗ ∃ W, owes (c : Thread nD τ) (0 : CellTallies nD τ sig Unit) W) := by
  show iprop(StableHlo.held (c.tc : Thread nD τ) arrs (VN V c) ∗ (∃ r, prngReg c r)
    ∗ (StableHlo.held (c.tc : Thread nD τ) others (VN V c) ∗ emp) ∗ closed c ∗ ∃ Wd, owes (c : Thread nD τ) (0 : CellTallies nD τ sig Unit) Wd) ⊢ _
  rw [StableHlo.held_sub_split (c : Thread nD τ) arrs_sub (VN V c)]
  iintro ⟨Ha, -, ⟨Ho, -⟩, Hb, HO⟩
  isplitr [HO]
  · isplitl [Ha Ho]
    · isplitl [Ha] <;> iassumption
    iexact Hb
  iexact HO

end Ends

variable (m : (ℓ : Loc nD τ sig) → Buf (Elt F) ℓ)

/-- The buffers when the kernel starts, after the host's operations. -/
def VH (c : Dev nD) : Valuation τ sig (Elt F) := Gen.V1 m c

/-- A buffer that no host operation and no kernel writes. -/
theorem VN_arg (c : Dev nD) (r : Ref sig .tc) (h : r ∉ Gen.hostOps0_W) (h' : r ≠ main_v23) :
    VN (VH m) c r = m ((c : Thread nD τ).loc r) :=
  (VN_of (VH m) c r h').trans (Gen.V1_of m c r h)

/-- What a device carries beside its buffers. -/
abbrev beside : Fin 2 → Dev nD → sProp 𝕄 := fun _ c => carried (VH m) c

/-- What the program leaves in a device's memory. -/
def Left (c : Dev nD) (s : MemSt nD τ sig (Elt F)) : Prop :=
  s.mem ((c.tc : Thread nD τ).loc main_v23) = outV (VH m) c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem in_refs {r : Ref sig .tc} (h : ¬ (Proc.devRef .tc r : DevRef τ sig).isScoped = true) :
    (Proc.devRef .tc r : DevRef τ sig) ∈ Pipeline.ucRefs τ sig :=
  Finset.mem_filter.mpr ⟨StableHlo.devRef_mem_tcRefs r, h⟩

theorem read_end (c : Dev nD) (s' : Phys nD τ sig (Elt F)) :
    iprop((StableHlo.held (c : Thread nD τ) (Pipeline.ucRefs τ sig) (VN (VH m) c) ∗ closed c) ∗ SI s')
      ⊢ (|={Set.univ}=> iprop(⌜Left m c s'.mem ∧ s'.mem.sem (cellB c) = 0⌝ ∗ SI s') : sProp 𝕄) := by
  unfold StableHlo.held closed
  iintro ⟨⟨Hh, Hb⟩, HSI⟩
  icombine HSI Hb gives %hb
  ihave Hr := (pointsTo_read_all (Pipeline.ucRefs τ sig) (fun b => ((c : Thread nD τ).1, b)) (VN (VH m) c) s') $$ [Hh HSI]
  · isplitl [Hh] <;> iassumption
  icases Hr with ⟨%h, HSI⟩
  imodintro
  isplitr
  · ipureintro
    exact ⟨⟨(h (Proc.devRef .tc main_v23) (in_refs (by decide))).trans (VN_out (VH m) c),
      (h (Proc.devRef .tc main_arg0) (in_refs (by decide))).trans (VN_arg m c main_arg0 (by decide) (by decide)),
      (h (Proc.devRef .tc main_arg1) (in_refs (by decide))).trans (VN_arg m c main_arg1 (by decide) (by decide)),
      (h (Proc.devRef .tc main_arg2) (in_refs (by decide))).trans (VN_arg m c main_arg2 (by decide) (by decide)),
      (h (Proc.devRef .tc main_arg3) (in_refs (by decide))).trans (VN_arg m c main_arg3 (by decide) (by decide)),
      (h (Proc.devRef .tc main_arg4) (in_refs (by decide))).trans (VN_arg m c main_arg4 (by decide) (by decide))⟩,
      by simpa using hb⟩
  iexact HSI

theorem unscoped_is_bar : ∀ sm : SemLoc sig, sm.isScoped .tc = false → sm = .reg semB := by decide

/-- The launch: each device holds its buffers as launched, and what it carries. -/
theorem launched (ρ : Dev nD → PrngReg) :
    iprop((bigSep Finset.univ fun c : Dev nD => iprop(unscopedBufs c (fun b => m ((c.tc : Thread nD τ).loc b)) ∗ unscopedSems0 c
        ∗ owes (c : Thread nD τ) (owed₀ c) ∅ ∗ Pipeline.launchCred owed₀ c ∗ prngReg c (ρ c) ∗ lot c)) ∗ levAts L lv)
      ⊢ (|={Set.univ}=> bigSep Finset.univ fun c : Dev nD =>
        iprop(StableHlo.held (c : Thread nD τ) (Pipeline.ucRefs τ sig) (Gen.V0 m c) ∗ carried (VH m) c) : sProp 𝕄) := by
  have hsplit : (bigSep Finset.univ fun c : Dev nD => iprop(unscopedBufs c (fun b => m ((c.tc : Thread nD τ).loc b)) ∗ unscopedSems0 c
        ∗ owes (c : Thread nD τ) (owed₀ c) ∅ ∗ Pipeline.launchCred owed₀ c ∗ prngReg c (ρ c) ∗ lot c))
      ⊢ (iprop((bigSep Finset.univ fun c : Dev nD => StableHlo.held (c : Thread nD τ) (Pipeline.ucRefs τ sig) (Gen.V0 m c))
        ∗ bigSep Finset.univ fun c : Dev nD => iprop(unscopedSems0 c ∗ owes (c : Thread nD τ) (owed₀ c) ∅
          ∗ Pipeline.launchCred owed₀ c ∗ prngReg c (ρ c) ∗ lot c)) : sProp 𝕄) := by
    rw [← bigSep_sep']
    exact bigSep_mono fun c _ => by
      rw [← Pipeline.unscopedBufs_held (Ix := Unit) (Name := ℕ) (U := UU) (Lvl := ℕ) c (Gen.V0 m c)]; exact BI.Entails.refl _
  iintro ⟨H, Hla⟩
  ihave H' := hsplit $$ H
  icases H' with ⟨Hh, Hr⟩
  imod (deal (VH m) ρ) $$ [Hr Hla] with HE
  · isplitl [Hr]; · iexact Hr
    iexact Hla
  imodintro
  rw [bigSep_sep']
  isplitl [Hh]; · iexact Hh
  iexact HE

set_option backward.isDefEq.respectTransparency.types false in
/-- The run: every execution ends, with the result's array at `outV`, the arguments as launched and every counter at zero. -/
theorem run (ρ : Dev nD → PrngReg) :
    θ_run (defs (F := F)) (onTc (τ := τ) (main (F := F))) ⟨m, fun _ => 0, ρ⟩
      (fun r => (∀ c : Dev nD, Left m c r.2) ∧ r.2.sem = fun _ => 0) :=
  Pipeline.θ_run_regions_kit_dev_sems (pcfgs (F := F)) Gen.adm (pdats (VH m)) () Gen.cellOf_inj EP (defs₀ (F := F)) 𝒱₀ L lv m ρ main
    (Gen.segs m 𝒱₀ L lv (beside m) () (pdats (VH m)) (region (VH m)))
    (fun c Q => by
      rewrite [Gen.main_chain c, Seg.run_eq_chain,
        show (Gen.segs m 𝒱₀ L lv (beside m) () (pdats (VH m)) (region (VH m)) c).map Seg.prog = [
          StableHlo.seq (Gen.hostOps0 c),
          Prog.lift (.customCall (Pipeline.entry 0) ()) ] from rfl]
      dsimp (config := { failIfUnchanged := false }) only
      exact .rfl)
    (fun c => by simp only [Gen.segs, Seg.pipes_host, Seg.pipes_region, Seg.pipes_nil]; decide)
    owed₀ L_of_ne lot u₀ launch_elem
    (fun c => iprop(StableHlo.held (c : Thread nD τ) (Pipeline.ucRefs τ sig) (Gen.V0 m c) ∗ carried (VH m) c))
    (fun c => iprop(StableHlo.held (c : Thread nD τ) (Pipeline.ucRefs τ sig) (VN (VH m) c) ∗ closed c))
    (fun c => ⟨.rfl, region_pre (VH m) c, region_post (VH m) c⟩)
    (launched m ρ)
    (fun c s => Left m c s ∧ s.sem (cellB c) = 0)
    (read_end m)
    (fun s h hs => ⟨fun c => (h c).1, sem_eq_zero hs fun c sm hsm => by
      obtain rfl := unscoped_is_bar sm hsm
      exact (h c).2⟩)

end Cert.KernelIdeal.Attn
-- ==== Proof.Host.lean ====
/- The arrays that each device hands to the kernel, read at an index of the program's arguments: its two
   batches' keys and values, one head after another, and its pair of weight blocks. -/
module

public import proofs.«01_k».proof.Proof.Run

@[expose] public section

set_option maxRecDepth 16384

noncomputable section

namespace Cert.KernelIdeal.Attn

open Idealize.ShloMosaic Idealize.ShloMosaic.TcCoe Idealize.ShloMosaic.Pointwise
open Cert.KernelIdeal Cert.KernelIdeal.Facts₀

/-- Where a device's two batches start. -/
def starts (c : Dev nD) : Fin 4 → ℤ := ![2 * c.val, 0, 0, 0]

/-- The first batch's number as the device's words compute it, over a device's number. -/
def firstWord (c : Dev nD) : IVec S_ 32 :=
  have w := muli (Host.remui (Host.divui (constantI S_ 32 (Dev.word c)) (constantI S_ 32 1#32)) (constantI S_ 32 4#32)) (constantI S_ 32 2#32)
  select (cmpi .slt w (constantI S_ 32 0#32)) (addi w (constantI S_ 32 8#32)) w

/-- The word is twice the device's number. -/
theorem firstWord_eq : ∀ c : Dev nD, (firstWord c ix0).toInt = 2 * c.val := by
  decide +kernel

/-- The same, at the one index it has. -/
theorem firstWord_apply (c : Dev nD) (j : S_.Idx) : (firstWord c j).toInt = 2 * c.val := by
  rw [show j = ix0 from funext fun a => a.elim0]
  exact firstWord_eq c

variable {F : FTy → Type} [FloatOps F] [Facts]

/-- The places that a slice starts at, from four words: a device's first batch, and nought three times. -/
theorem starts_words (c : Dev nD) (w : Fin 4 → IVec S_ 32) (j : S_.Idx) (h0 : w 0 = firstWord c)
    (h1 : w 1 = constantI S_ 32 0#32) (h2 : w 2 = constantI S_ 32 0#32) (h3 : w 3 = constantI S_ 32 0#32) :
    (fun k => (w k j).toInt) = starts c := by
  funext k
  fin_cases k
  · exact (congrArg (fun v : IVec S_ 32 => (v j).toInt) h0).trans (firstWord_apply c j)
  · exact congrArg (fun v : IVec S_ 32 => (v j).toInt) h1
  · exact congrArg (fun v : IVec S_ 32 => (v j).toInt) h2
  · exact congrArg (fun v : IVec S_ 32 => (v j).toInt) h3

/-- The words that the slice of the keys starts at, from buffers that hold them. -/
theorem starts_keys (c : Dev nD) (W : Valuation τ sig (Elt F))
    (hT : ∀ k, ((![main_v8, main_c_4, main_c_5, main_c_6] : Fin 4 → Ref sig .tc) k).ty = ⟨S_, .i32⟩) (j : S_.Idx)
    (h0 : @Eq _ (W (Proc.devRef .tc main_v8)) (firstWord c)) (h1 : @Eq _ (W (Proc.devRef .tc main_c_4)) (constantI S_ 32 0#32))
    (h2 : @Eq _ (W (Proc.devRef .tc main_c_5)) (constantI S_ 32 0#32)) (h3 : @Eq _ (W (Proc.devRef .tc main_c_6)) (constantI S_ 32 0#32)) :
    (fun k => BitVec.toInt ((fun k => cast (congrArg (fun U : BufTy => U.Contents (Elt F)) (hT k))
      (W (Proc.devRef .tc ((![main_v8, main_c_4, main_c_5, main_c_6] : Fin 4 → Ref sig .tc) k))) : Fin 4 → IVec S_ 32) k j)) = starts c :=
  starts_words c _ j h0 h1 h2 h3

/-- The words that the slice of the values starts at, from buffers that hold them. -/
theorem starts_values (c : Dev nD) (W : Valuation τ sig (Elt F))
    (hT : ∀ k, ((![main_v13, main_c_10, main_c_11, main_c_12] : Fin 4 → Ref sig .tc) k).ty = ⟨S_, .i32⟩) (j : S_.Idx)
    (h0 : @Eq _ (W (Proc.devRef .tc main_v13)) (firstWord c)) (h1 : @Eq _ (W (Proc.devRef .tc main_c_10)) (constantI S_ 32 0#32))
    (h2 : @Eq _ (W (Proc.devRef .tc main_c_11)) (constantI S_ 32 0#32)) (h3 : @Eq _ (W (Proc.devRef .tc main_c_12)) (constantI S_ 32 0#32)) :
    (fun k => BitVec.toInt ((fun k => cast (congrArg (fun U : BufTy => U.Contents (Elt F)) (hT k))
      (W (Proc.devRef .tc ((![main_v13, main_c_10, main_c_11, main_c_12] : Fin 4 → Ref sig .tc) k))) : Fin 4 → IVec S_ 32) k j)) = starts c :=
  starts_words c _ j h0 h1 h2 h3

variable (m : (ℓ : Loc nD τ sig) → Buf (Elt F) ℓ)

/-- Two batches' rows of 32 heads, one head after another. -/
def byHead (st : Fin 4 → ℤ) (x : Vec F S8x512x32x64 .f32) : Vec F S64x512x64 .f32 :=
  shapeCast S64x512x64 (transpose S2x32x512x64 [0, 2, 1, 3]
    (Host.dynamicSlice S2x512x32x64 x st Gen.sliceFits_S8x512x32x64_S2x512x32x64)
    Gen.transposes_S2x512x32x64_S2x32x512x64_0_2_1_3) Gen.shapeCasts_S2x32x512x64_S64x512x64

/-- The keys handed to the kernel. -/
theorem keys_eq (c : Dev nD) : VH m c main_v16 = byHead (starts c) (m ((c.tc : Thread nD τ).loc main_arg2)) := by
  unfold VH Gen.V1
  after_results
  refine congrArg (fun st => byHead st (m ((c.tc : Thread nD τ).loc main_arg2)))
    (starts_keys c _ (fun k => by fin_cases k <;> rfl) _ ?_ ?_ ?_ ?_)
  all_goals
    simp only [↓ StableHlo.readResult]
    try rfl

/-- The values handed to the kernel. -/
theorem values_eq (c : Dev nD) : VH m c main_v18 = byHead (starts c) (m ((c.tc : Thread nD τ).loc main_arg3)) := by
  unfold VH Gen.V1
  after_results
  refine congrArg (fun st => byHead st (m ((c.tc : Thread nD τ).loc main_arg3)))
    (starts_values c _ (fun k => by fin_cases k <;> rfl) _ ?_ ?_ ?_ ?_)
  all_goals
    simp only [↓ StableHlo.readResult]
    try rfl

/-- A device's two weight blocks, one over the other: the columns of the queries' weights that it holds, and the transpose of
    the rows of the output's weights that it holds. -/
def pair (wq : Vec F S768x512 .f32) (wo : Vec F S512x768 .f32) : Vec F S2x768x512 .f32 :=
  concatenate S2x768x512 0 [⟨S1x768x512, broadcastInDim S1x768x512 ![1, 2] Gen.bcast_S768x512_S1x768x512_1_2 wq⟩,
    ⟨S1x768x512, broadcastInDim S1x768x512 ![1, 2] Gen.bcast_S768x512_S1x768x512_1_2
      (transpose S768x512 [1, 0] wo Gen.transposes_S512x768_S768x512_1_0)⟩] Gen.concatenates_S1x768x512_S1x768x512_S2x768x512_d0

/-- The weights handed to the kernel. -/
theorem weights_eq (c : Dev nD) : VH m c main_v22
    = pair (m ((c.tc : Thread nD τ).loc main_arg1)) (m ((c.tc : Thread nD τ).loc main_arg4)) := by
  unfold VH Gen.V1
  after_results
  rfl

/-- The rows handed to the kernel are the program's own. -/
theorem rows_eq (c : Dev nD) : VH m c main_arg0 = m ((c.tc : Thread nD τ).loc main_arg0) := by
  unfold VH Gen.V1
  after_results

/-- A batch of a device's two, among all eight. -/
def batch (c : Dev nD) (b : Fin 2) : Fin 8 := ⟨2 * c.val + b.val, by have h : c.val < 4 := c.isLt; omega⟩

/-- The slice starts where the device's batches start: no start reaches past the array's end. -/
theorem clamped (c : Dev nD) : ∀ a, Host.clampedStart S8x512x32x64 S2x512x32x64 Gen.sliceFits_S8x512x32x64_S2x512x32x64.1 (starts c) a
    = (![2 * c.val, 0, 0, 0] : Fin 4 → ℕ) a := by
  revert c
  decide

/-- Head `n` of a device's two batches, read at row `j` and column `e`. -/
theorem byHead_apply (c : Dev nD) (x : Vec F S8x512x32x64 .f32) (n : Fin 64) (j : Fin 512) (e : Fin 64) :
    byHead (starts c) x (ix3 n j e) = x (ix4 (batch c ⟨n.val / 32, by omega⟩) j ⟨n.val % 32, by omega⟩ e) := by
  pointwise [byHead]
  refine congrArg x (congr (congr (congr (congrArg ix4 (Fin.ext ?_)) (Fin.ext ?_)) (Fin.ext ?_)) (Fin.ext ?_))
  · exact congrArg (· + n.val / 32) (clamped c 0)
  · exact (congrArg (· + j.val) (clamped c 1)).trans (Nat.zero_add _)
  · exact (congrArg (· + n.val % 32) (clamped c 2)).trans (Nat.zero_add _)
  · exact (congrArg (· + e.val) (clamped c 3)).trans (Nat.zero_add _)

/-- The first block of a device's pair, read at an index. -/
theorem pair_fst (wq : Vec F S768x512 .f32) (wo : Vec F S512x768 .f32) (i : Fin 768) (j : Fin 512) :
    pair wq wo (ix3 0 i j) = wq (ix2 i j) := by
  pointwise [pair]

/-- The second block of a device's pair, read at an index. -/
theorem pair_snd (wq : Vec F S768x512 .f32) (wo : Vec F S512x768 .f32) (i : Fin 768) (j : Fin 512) :
    pair wq wo (ix3 1 i j) = wo (ix2 j i) := by
  pointwise [pair]

end Cert.KernelIdeal.Attn
end
-- ==== Proof.Attend.lean ====
/- Block-sparse attention as plain formulas over the extended reals: which positions see which, one head,
   and the whole layer; and the whole layer as the sum of four groups of eight heads. -/
module

public import Idealize.ShloMosaic.Lib.Pointwise

@[expose] public section

noncomputable section

namespace Cert.Attention

open Idealize.ShloMosaic

/-- Position `i` sees position `j`: their blocks of 64 are the same, or `j`'s is the first, or the two block
numbers add up to a multiple of three. -/
def sees (i j : Fin 512) : BitVec 1 :=
  BitVec.ofBool (decide (i.val / 64 = j.val / 64) || decide (j.val / 64 = 0) || decide ((i.val / 64 + j.val / 64) % 3 = 0))

/-- Every position sees the first one. -/
theorem sees_first (i : Fin 512) : sees i 0 = 1#1 := by
  have h : decide ((0 : Fin 512).val / 64 = 0) = true := by decide
  unfold sees
  rw [h, Bool.or_true, Bool.true_or]
  rfl

/-- The scores of position `i` from its products with the keys: an eighth of the product where it sees the
key, and the filler `-1e9` elsewhere. -/
def masked (i : Fin 512) (p : Fin 512 → EReal) (j : Fin 512) : EReal :=
  Scalar.select (sees i j) (p j * Ideal.ofBits .f32 0x3E000000#32) (Ideal.ofBits .f32 0xCE6E6B28#32)

/-- The exponentials of a row of scores, each less the greatest. -/
def raised (z : Fin 512 → EReal) (j : Fin 512) : EReal :=
  Ideal.exp (z j - Finset.univ.fold max (Ideal.ofBits .f32 0xFF800000#32) z)

/-- The softmax of a row of scores. -/
def weigh (z : Fin 512 → EReal) (j : Fin 512) : EReal :=
  Ideal.div (raised z j) (∑ k, raised z k)

/-- One head at position `i`: its values averaged by the softmax of the scores. -/
def head (i : Fin 512) (q : Fin 64 → EReal) (k v : Fin 512 → Fin 64 → EReal) (d : Fin 64) : EReal :=
  ∑ j, weigh (masked i fun j => ∑ e, q e * k j e) j * v j d

/-! ## The whole layer -/

/-- The whole arrays: the inputs, the query weights, the keys, the values and the output weights. -/
structure Arrays where
  /-- the input rows -/
  x : Fin 8 → Fin 512 → Fin 768 → EReal
  /-- the query weights -/
  wq : Fin 768 → Fin 2048 → EReal
  /-- the keys of each batch and head -/
  k : Fin 8 → Fin 32 → Fin 512 → Fin 64 → EReal
  /-- the values of each batch and head -/
  v : Fin 8 → Fin 32 → Fin 512 → Fin 64 → EReal
  /-- the output weights -/
  wo : Fin 2048 → Fin 768 → EReal

variable (A : Arrays)

/-- Column `64 g + d` of 32 heads of 64. -/
abbrev col (g : Fin 32) (d : Fin 64) : Fin 2048 := ⟨64 * g.val + d.val, by omega⟩
/-- Head `8 s + e` of four groups of eight. -/
abbrev headAt (s : Fin 4) (e : Fin 8) : Fin 32 := ⟨8 * s.val + e.val, by omega⟩
/-- Column `512 s + n` of four groups of 512. -/
abbrev colAt (s : Fin 4) (n : Fin 512) : Fin 2048 := ⟨512 * s.val + n.val, by omega⟩

/-- The query of head `g` at row `i` of batch `b`. -/
def query (b : Fin 8) (i : Fin 512) (g : Fin 32) (d : Fin 64) : EReal := ∑ m, A.x b i m * A.wq m (col g d)

/-- The attended value of head `g`. -/
def context (b : Fin 8) (i : Fin 512) (g : Fin 32) (d : Fin 64) : EReal :=
  head i (query A b i g) (A.k b g) (A.v b g) d

/-- The layer's result: all heads side by side, times the output weights. -/
def layer (b : Fin 8) (i : Fin 512) (o : Fin 768) : EReal :=
  ∑ n : Fin 2048, context A b i ⟨n.val / 64, by omega⟩ ⟨n.val % 64, by omega⟩ * A.wo n o

/-- What the eight heads of group `s` add to the result. -/
def share (b : Fin 8) (i : Fin 512) (o : Fin 768) (s : Fin 4) : EReal :=
  ∑ n : Fin 512, context A b i (headAt s ⟨n.val / 64, by omega⟩) ⟨n.val % 64, by omega⟩ * A.wo (colAt s n) o

/-- The layer is the sum of its four groups. -/
theorem layer_eq (b : Fin 8) (i : Fin 512) (o : Fin 768) : layer A b i o = ∑ s, share A b i o s := by
  unfold layer share
  rw [← Fintype.sum_prod_type' (f := fun (s : Fin 4) (n : Fin 512) =>
    context A b i (headAt s ⟨n.val / 64, by omega⟩) ⟨n.val % 64, by omega⟩ * A.wo (colAt s n) o)]
  refine (Equiv.sum_comp (finProdFinEquiv (m := 4) (n := 512)) _).symm.trans (Finset.sum_congr rfl fun p _ => ?_)
  obtain ⟨s, n⟩ := p
  have hv : (finProdFinEquiv (s, n) : Fin (4 * 512)).val = n.val + 512 * s.val := rfl
  have hc : (finProdFinEquiv (s, n) : Fin (4 * 512)) = colAt s n := Fin.ext (by rw [hv]; show _ = 512 * s.val + n.val; omega)
  have hg : (⟨(finProdFinEquiv (s, n) : Fin (4 * 512)).val / 64, by omega⟩ : Fin 32) = headAt s ⟨n.val / 64, by omega⟩ :=
    Fin.ext (by show (finProdFinEquiv (s, n) : Fin (4 * 512)).val / 64 = 8 * s.val + n.val / 64; rw [hv]; omega)
  have hd : (⟨(finProdFinEquiv (s, n) : Fin (4 * 512)).val % 64, by omega⟩ : Fin 64) = ⟨n.val % 64, by omega⟩ :=
    Fin.ext (by show (finProdFinEquiv (s, n) : Fin (4 * 512)).val % 64 = n.val % 64; rw [hv]; omega)
  exact congrArg₂ (· * ·) (congrArg₂ (context A b i) hg hd) (congrArg (A.wo · o) hc)

end Cert.Attention

end
-- ==== Proof.Heads.lean ====
/- What the kernel computes over the extended reals, read at an index: the mask, one head, one batch's
   eight heads, and the share of the output rows that they give. -/
module

public import proofs.«01_k».proof.Proof.Values
public import proofs.«01_k».proof.Proof.Attend

@[expose] public section

set_option maxRecDepth 16384

noncomputable section

namespace Cert.KernelIdeal.Attn

open Idealize.ShloMosaic Idealize.ShloMosaic.TcCoe Idealize.ShloMosaic.Pointwise
open Cert.KernelIdeal Cert.KernelIdeal.Facts₀
open Cert.Attention

/-! ## The mask -/

/-- The floor of `i` by 64, as the kernel's words compute it. -/
theorem block_word : ∀ i : Fin 512,
    (Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32)) = BitVec.ofNat 32 (i.val / 64) := by
  decide +kernel

/-- The three conditions on two block numbers, as the kernel's words compute them. -/
theorem sees_word : ∀ a b : Fin 8,
    IntOp.ori (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq
        (IntOp.remsi ArithUnit.vector (IntOp.addi (BitVec.ofNat 32 a.val) (BitVec.ofNat 32 b.val)) 3#32) 0#32)
      = BitVec.ofBool (decide (a.val = b.val) || decide (b.val = 0) || decide ((a.val + b.val) % 3 = 0)) := by
  decide +kernel

variable [Facts]

/-- The kernel's mask is `sees`. -/
theorem mask_apply (i j : Fin 512) : mask (ix2 i j) = sees i j := by
  pointwise [mask, Gen.k0_pay11, Gen.k0_pay10, Gen.k0_pay9, Gen.k0_pay8, Gen.k0_pay7, Gen.k0_pay6, Gen.k0_pay5, Gen.k0_pay4]
  rw [block_word i, block_word j]
  exact sees_word ⟨i.val / 64, by omega⟩ ⟨j.val / 64, by omega⟩

/-! ## One head -/

/-- One head of one batch, at an index. -/
theorem headVal_apply (x : Vec Ideal S1x512x768 .f32) (wq : FVec Ideal S768x512 .f32) (e : Fin 8) (k v : Vec Ideal S1x512x64 .f32)
    (i : Fin 512) (d : Fin 64) :
    headVal (queries x wq) e k v (ix2 i d)
      = head i (fun f => ∑ m : Fin 768, x (ix3 0 i m) * wq (ix2 m ⟨64 * e.val + f.val, by omega⟩))
          (fun j f => k (ix3 0 j f)) (fun j f => v (ix3 0 j f)) d := by
  have hq : ∀ f : Fin 64, extractStridedSlice S512x64 ![0, 64 * e.val] (queries x wq) (slicesHead e) (ix2 i f)
      = ∑ m : Fin 768, x (ix3 0 i m) * wq (ix2 m ⟨64 * e.val + f.val, by omega⟩) := fun f => by
    pointwise [queries]
  unfold headVal
  generalize extractStridedSlice S512x64 ![0, 64 * e.val] (queries x wq) (slicesHead e) = q at hq ⊢
  have hm : ∀ j, mask (ix2 i j) = sees i j := mask_apply i
  generalize mask = M at hm ⊢
  pointwise [Gen.k0_pay16]
  simp only [hq, hm]
  rfl

/-! ## One batch -/

/-- The eight heads of batch `b` in a phase, at an index. -/
theorem ctxOf_apply (c : Dev nD) (h : Fin 4) (K V : Vec Ideal S64x512x64 .f32) (w : Vec Ideal S1x1x768x512 .f32) (X : Vec Ideal S2x512x768 .f32)
    (b : Fin 2) (i n : Fin 512) :
    ctxOf c h K V (Gen.k0_pay12 w) X b (ix2 i n)
      = head i (fun f => ∑ m : Fin 768, X (ix3 b i m) * w (ix4 0 0 m ⟨64 * (n.val / 64) + f.val, by omega⟩))
          (fun j f => K (ix3 (headNo c h b ⟨n.val / 64, by omega⟩) j f))
          (fun j f => V (ix3 (headNo c h b ⟨n.val / 64, by omega⟩) j f)) ⟨n.val % 64, by omega⟩ := by
  have hw : ∀ (m : Fin 768) (n : Fin 512), Gen.k0_pay12 w (ix2 m n) = w (ix4 0 0 m n) := fun m n => by
    pointwise [Gen.k0_pay12]
  show headVal _ _ _ _ (ix2 i ⟨n.val % 64, _⟩) = _
  refine (headVal_apply _ _ _ _ _ _ _).trans ?_
  simp only [hw]
  rfl

/-- The output rows after a phase's update of both batches, at an index. -/
theorem phaseOf_apply (c : Dev nD) (h : Fin 4) (K V : Vec Ideal S64x512x64 .f32) (W : Vec Ideal S2x768x512 .f32) (X : Vec Ideal S2x512x768 .f32)
    (upd : FVec Ideal S768x512 .f32 → Fin 2 → Vec Ideal S512x512 .f32 → Vec Ideal S2x512x768 .f32 → Vec Ideal S2x512x768 .f32)
    (f : EReal → EReal → EReal)
    (hupd : ∀ wo b C O b' i o, upd wo b C O (ix3 b' i o) = if b'.val = b.val then f (O (ix3 b i o)) (project wo C (ix2 i o)) else O (ix3 b' i o))
    (O : Vec Ideal S2x512x768 .f32) (b : Fin 2) (i : Fin 512) (o : Fin 768) :
    phaseOf c h K V W X upd O (ix3 b i o)
      = f (O (ix3 b i o)) (project (Gen.k0_pay13 (weightOf W 1)) (ctxOf c h K V (Gen.k0_pay12 (weightOf W 0)) X b) (ix2 i o)) := by
  unfold phaseOf
  rw [hupd, hupd, hupd]
  fin_cases b <;> rfl

/-! ## The four phases -/

/-- What the first phase leaves in a batch's rows. -/
theorem updFirst_apply (wo : FVec Ideal S768x512 .f32) (b : Fin 2) (C : Vec Ideal S512x512 .f32) (O : Vec Ideal S2x512x768 .f32)
    (b' : Fin 2) (i : Fin 512) (o : Fin 768) :
    updFirst wo b C O (ix3 b' i o) = if b'.val = b.val then project wo C (ix2 i o) else O (ix3 b' i o) := by
  have h : firstOut wo C (ix3 0 i o) = project wo C (ix2 i o) := by
    unfold firstOut
    generalize project wo C = P
    pointwise
  exact congrArg (fun t => if b'.val = b.val then t else O (ix3 b' i o)) h

/-- What a later phase leaves in a batch's rows. -/
theorem updNext_apply (wo : FVec Ideal S768x512 .f32) (b : Fin 2) (C : Vec Ideal S512x512 .f32) (O : Vec Ideal S2x512x768 .f32)
    (b' : Fin 2) (i : Fin 512) (o : Fin 768) :
    updNext wo b C O (ix3 b' i o) = if b'.val = b.val then O (ix3 b i o) + project wo C (ix2 i o) else O (ix3 b' i o) := by
  have h : nextOut wo C (rowOf O b) (ix3 0 i o) = O (ix3 b i o) + project wo C (ix2 i o) := by
    unfold nextOut
    generalize project wo C = P
    have hr : rowOf O b (ix3 0 i o) = O (ix3 b i o) := rfl
    generalize rowOf O b = R at hr ⊢
    pointwise
    rw [hr]
  exact congrArg (fun t => if b'.val = b.val then t else O (ix3 b' i o)) h

/-- What phase `h` adds to row `i` of batch `b`: the eight heads of the group whose weights arrived, times its
output weights. -/
def part (c : Dev nD) (h : Fin 4) (K V : Vec Ideal S64x512x64 .f32) (W : Vec Ideal S2x768x512 .f32) (X : Vec Ideal S2x512x768 .f32)
    (b : Fin 2) (i : Fin 512) (o : Fin 768) : EReal :=
  ∑ n : Fin 512, head i (fun f => ∑ m : Fin 768, X (ix3 b i m) * W (ix3 0 m ⟨64 * (n.val / 64) + f.val, by omega⟩))
    (fun j f => K (ix3 (headNo c h b ⟨n.val / 64, by omega⟩) j f))
    (fun j f => V (ix3 (headNo c h b ⟨n.val / 64, by omega⟩) j f)) ⟨n.val % 64, by omega⟩ * W (ix3 1 o n)

/-- The phase's product with the output weights. -/
theorem part_eq (c : Dev nD) (h : Fin 4) (K V : Vec Ideal S64x512x64 .f32) (W : Vec Ideal S2x768x512 .f32) (X : Vec Ideal S2x512x768 .f32)
    (b : Fin 2) (i : Fin 512) (o : Fin 768) :
    project (Gen.k0_pay13 (weightOf W 1)) (ctxOf c h K V (Gen.k0_pay12 (weightOf W 0)) X b) (ix2 i o) = part c h K V W X b i o := by
  have hc := fun n => ctxOf_apply c h K V (weightOf W 0) X b i n
  have hw : ∀ (m : Fin 768) (n : Fin 512), Gen.k0_pay13 (weightOf W 1) (ix2 m n) = W (ix3 1 m n) := fun m n => by
    have hr : weightOf W 1 (ix4 0 0 m n) = W (ix3 1 m n) := rfl
    generalize weightOf W 1 = w at hr ⊢
    pointwise [Gen.k0_pay13]
    exact hr
  generalize ctxOf c h K V (Gen.k0_pay12 (weightOf W 0)) X b = C at hc ⊢
  generalize Gen.k0_pay13 (weightOf W 1) = P at hw ⊢
  pointwise [project]
  exact Finset.sum_congr rfl fun n _ => congrArg₂ (· * ·) (hc n) (hw o n)

/-- The output rows of device `c` are the sum of the four phases' parts. -/
theorem outOf_apply (c : Dev nD) (W : Dev nD → Vec Ideal S2x768x512 .f32) (K V : Vec Ideal S64x512x64 .f32) (X O : Vec Ideal S2x512x768 .f32)
    (b : Fin 2) (i : Fin 512) (o : Fin 768) :
    outOf c W K V X O (ix3 b i o) = ∑ h : Fin 4, part c h K V (W (src c h)) X b i o := by
  unfold outOf
  rw [phaseOf_apply c 3 K V _ X updNext (· + ·) updNext_apply, phaseOf_apply c 2 K V _ X updNext (· + ·) updNext_apply,
    phaseOf_apply c 1 K V _ X updNext (· + ·) updNext_apply, phaseOf_apply c 0 K V _ X updFirst (fun _ t => t) updFirst_apply,
    part_eq, part_eq, part_eq, part_eq, Fin.sum_univ_four]

end Cert.KernelIdeal.Attn

end
-- ==== Proof.RefMask.lean ====
/- The reference's mask, which its program computes with words of 32 bits: at every pair of positions it is the mask that the
   layer's mathematics states, and it leaves no row empty. -/
module

public import proofs.«01_k».proof.Proof.Gen.ReferenceIdeal.Run
public import proofs.«01_k».proof.Proof.Attend
public import Idealize.ShloMosaic.Lib.Routing.OpsOrder

@[expose] public section

set_option maxRecDepth 16384

noncomputable section

namespace Cert.ReferenceIdeal.Attn

open Cert.ReferenceIdeal Cert.ReferenceIdeal.Gen Cert.Attention
open Idealize.ShloMosaic Idealize.ShloMosaic.Pointwise Idealize.ShloMosaic.Routing

/-- The width of a block at every position. -/
def width : IVec S512 32 := broadcastInDim S512 ![] bcast_S_S512 (id (constantI S_ 32 64#32))

/-- Each position's quotient by the width, rounded toward nought. -/
def quot : IVec S512 32 := Host.divsi (iotaInDim S512 32 0) width

/-- Each position's block: the quotient rounded down. -/
def blk : IVec S512 32 :=
  select (andi (cmpi .ne (signi (iotaInDim S512 32 0)) (broadcastInDim S512 ![] bcast_S_S512 (signi (id (constantI S_ 32 64#32)))))
      (cmpi .ne (Host.remsi (iotaInDim S512 32 0) width) (broadcastInDim S512 ![] bcast_S_S512 (constantI S_ 32 0#32))))
    (subi quot (broadcastInDim S512 ![] bcast_S_S512 (constantI S_ 32 1#32))) quot

/-- The blocks of the rows. -/
def rowBlk : IVec S512x512 32 := broadcastInDim S512x512 ![0, 1] bcast_S512x1_S512x512_0_1 (broadcastInDim S512x1 ![0] bcast_S512_S512x1_0 blk)

/-- The blocks of the columns, in one row. -/
def colBlk₁ : IVec S1x512 32 := broadcastInDim S1x512 ![1] bcast_S512_S1x512_1 blk

/-- The blocks of the columns. -/
def colBlk : IVec S512x512 32 := broadcastInDim S512x512 ![0, 1] bcast_S1x512_S512x512_0_1 colBlk₁

/-- The divisor three, guarded against being nought. -/
def three : IVec S_ 32 :=
  select (cmpi .eq (id (constantI S_ 32 3#32)) (constantI S_ 32 0#32)) (constantI S_ 32 1#32) (id (constantI S_ 32 3#32))

/-- The divisor three at every pair of positions. -/
def threes : IVec S512x512 32 := broadcastInDim S512x512 ![] bcast_S_S512x512 three

/-- The remainder by three of the two blocks' sum, with the sign of the sum. -/
def rest : IVec S512x512 32 := Host.remsi (addi rowBlk colBlk) threes

/-- Nought at every pair of positions. -/
def noughts : IVec S512x512 32 := broadcastInDim S512x512 ![] bcast_S_S512x512 (constantI S_ 32 0#32)

/-- The reference's mask. -/
def seen : IVec S512x512 1 :=
  ori (ori (cmpi .eq rowBlk colBlk) (broadcastInDim S512x512 ![0, 1] bcast_S1x512_S512x512_0_1
      (cmpi .eq colBlk₁ (broadcastInDim S1x512 ![] bcast_S_S1x512 (constantI S_ 32 0#32)))))
    (cmpi .eq (select (andi (cmpi .ne (cmpi .slt rest noughts) (broadcastInDim S512x512 ![] bcast_S_S512x512 (cmpi .slt three (constantI S_ 32 0#32))))
      (cmpi .ne rest noughts)) (addi rest threes) rest) noughts)

/-- The rows that see some position. -/
def kept : IVec S512 1 := Host.reduce IntOp.ori seen (constantI S_ 1 0#1) reducesTo_S512x512_S512_d1 h_S_

/-- A position's block is its quotient by 64. -/
theorem blk_apply : ∀ i : Fin 512, blk (ix1 i) = BitVec.ofNat 32 (i.val / 64) := by
  decide +kernel

/-- The guarded divisor is three. -/
theorem three_eq : three ix0 = 3#32 := by
  decide +kernel

/-- The reference's mask is the layer's. -/
theorem seen_apply (i j : Fin 512) : seen (ix2 i j) = sees i j := by
  pointwise [seen, rest, noughts, threes, rowBlk, colBlk, colBlk₁]
  rw [three_eq, blk_apply, blk_apply]
  unfold sees
  have ha : i.val / 64 < 8 := by omega
  have hb : j.val / 64 < 8 := by omega
  generalize i.val / 64 = a at ha ⊢
  generalize j.val / 64 = b at hb ⊢
  revert b
  revert a
  decide +kernel

/-- Every row sees some position: it sees the first. -/
theorem kept_apply (i : Fin 512) : kept (ix1 i) = 1#1 := by
  pointwise [kept]
  exact (fold_ori _ _).mpr ⟨0, Finset.mem_univ _, (seen_apply i 0).trans (sees_first i)⟩

end Cert.ReferenceIdeal.Attn
end
-- ==== Proof.RefValue.lean ====
/- The reference's result on the reals, read at an index of its arguments: it is the layer. -/
module

public import proofs.«01_k».proof.Proof.RefMask

@[expose] public section

set_option maxRecDepth 16384

noncomputable section

namespace Cert.ReferenceIdeal.Attn

open Cert.ReferenceIdeal Cert.ReferenceIdeal.Gen Cert.Attention
open Idealize.ShloMosaic Idealize.ShloMosaic.TcCoe Idealize.ShloMosaic.Pointwise

variable (x : FVec Ideal S8x512x768 .f32) (wq : FVec Ideal S768x2048 .f32) (k v : FVec Ideal S8x512x32x64 .f32) (wo : FVec Ideal S2048x768 .f32)

/-- The queries of every head. -/
def queries : FVec Ideal S8x512x32x64 .f32 :=
  shapeCast S8x512x32x64 (Host.dotGeneral dot_S8x512x768_S768x2048_S8x512x2048_2_0_01_1_n_n none x wq) shapeCasts_S8x512x2048_S8x512x32x64

/-- The masked scores, from the queries and the keys. -/
def scores (q : FVec Ideal S8x512x32x64 .f32) : FVec Ideal S8x32x512x512 .f32 :=
  select (broadcastInDim S8x32x512x512 ![0, 1, 2, 3] bcast_S1x1x512x512_S8x32x512x512_0_1_2_3
      (broadcastInDim S1x1x512x512 ![2, 3] bcast_S512x512_S1x1x512x512_2_3 seen))
    (mulf (Host.dotGeneral dot_S8x512x32x64_S8x512x32x64_S8x32x512x512_3_3_1_1_02_02 none q k)
      (broadcastInDim S8x32x512x512 ![] bcast_S_S8x32x512x512 (constant S_ .f32 0x3E000000#32)))
    (broadcastInDim S8x32x512x512 ![] bcast_S_S8x32x512x512 (id (constant S_ .f32 0xCE6E6B28#32)))

/-- The exponentials of the scores, each less its row's greatest. -/
def exps (s : FVec Ideal S8x32x512x512 .f32) : FVec Ideal S8x32x512x512 .f32 :=
  Host.exp (subf s (broadcastInDim S8x32x512x512 ![0, 1, 2, 3] bcast_S8x32x512x1_S8x32x512x512_0_1_2_3
    (broadcastInDim S8x32x512x1 ![0, 1, 2] bcast_S8x32x512_S8x32x512x1_0_1_2
      (Host.reduce FloatOps.maximumf s (constant S_ .f32 0xFF800000#32) reducesTo_S8x32x512x512_S8x32x512_d3 h_S_))))

/-- The rows that see some position, as a column. -/
def keptCol : IVec S1x1x512x1 1 := broadcastInDim S1x1x512x1 ![2] bcast_S512_S1x1x512x1_2 kept

/-- The weights: the exponentials over their row's sum, and nought where a row sees nothing. -/
def weights (e : FVec Ideal S8x32x512x512 .f32) : FVec Ideal S8x32x512x512 .f32 :=
  select (broadcastInDim S8x32x512x512 ![0, 1, 2, 3] bcast_S1x1x512x1_S8x32x512x512_0_1_2_3 keptCol)
    (Host.divf e (broadcastInDim S8x32x512x512 ![0, 1, 2, 3] bcast_S8x32x512x1_S8x32x512x512_0_1_2_3
      (select (broadcastInDim S8x32x512x1 ![0, 1, 2, 3] bcast_S1x1x512x1_S8x32x512x1_0_1_2_3 keptCol)
        (broadcastInDim S8x32x512x1 ![0, 1, 2] bcast_S8x32x512_S8x32x512x1_0_1_2
          (Host.reduceAdd e (constant S_ .f32 0x00000000#32) reducesTo_S8x32x512x512_S8x32x512_d3 h_S_))
        (broadcastInDim S8x32x512x1 ![] bcast_S_S8x32x512x1 (id (constant S_ .f32 0x3F800000#32))))))
    (broadcastInDim S8x32x512x512 ![] bcast_S_S8x32x512x512 (id (constant S_ .f32 0x00000000#32)))

/-- The attended values, all heads side by side. -/
def attended (w : FVec Ideal S8x32x512x512 .f32) : FVec Ideal S8x512x2048 .f32 :=
  shapeCast S8x512x2048 (transpose S8x512x32x64 [0, 3, 1, 2]
    (Host.dotGeneral dot_S8x512x32x64_S8x32x512x512_S8x32x64x512_1_3_3_2_02_01 none v w) transposes_S8x32x64x512_S8x512x32x64_0_3_1_2)
    shapeCasts_S8x512x32x64_S8x512x2048

/-- The reference's result. -/
def result : FVec Ideal S8x512x768 .f32 :=
  Host.dotGeneral dot_S8x512x2048_S2048x768_S8x512x768_2_0_01_1_n_n none
    (attended v (weights (exps (scores k (queries x wq))))) wo

/-- The reference's program computes the result so put together. -/
theorem res_eq (m : (ℓ : Loc nD τ sig) → Buf (Elt Ideal) ℓ) (c : Dev nD) : Value.res_main_v44 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

/-- The layer's arrays, from the program's. -/
def arrays : Arrays where
  x b i m := x (ix3 b i m)
  wq m n := wq (ix2 m n)
  k b g j e := k (ix4 b j g e)
  v b g j e := v (ix4 b j g e)
  wo n o := wo (ix2 n o)

/-- The queries, read at an index. -/
theorem queries_apply (b : Fin 8) (i : Fin 512) (g : Fin 32) (d : Fin 64) :
    queries x wq (ix4 b i g d) = query (arrays x wq k v wo) b i g d := by
  pointwise [queries]
  refine Finset.sum_congr rfl fun m _ => congrArg (fun n => x (ix3 b i m) * wq (ix2 m n)) (Fin.ext ?_)
  show g.val * 64 + d.val = 64 * g.val + d.val
  omega

/-- The masked scores, read at an index. -/
theorem scores_apply (q : FVec Ideal S8x512x32x64 .f32) (b : Fin 8) (g : Fin 32) (i j : Fin 512) :
    scores k q (ix4 b g i j) = masked i (fun j => ∑ e, q (ix4 b i g e) * k (ix4 b j g e)) j := by
  pointwise [scores]
  rw [seen_apply]
  rfl

/-- The exponentials, read at an index. -/
theorem exps_apply (s : FVec Ideal S8x32x512x512 .f32) (b : Fin 8) (g : Fin 32) (i j : Fin 512) :
    exps s (ix4 b g i j) = raised (fun j => s (ix4 b g i j)) j := by
  pointwise [exps]
  rfl

/-- The weights, read at an index: since every row sees some position, no row is set to nought. -/
theorem weights_apply (e : FVec Ideal S8x32x512x512 .f32) (b : Fin 8) (g : Fin 32) (i j : Fin 512) :
    weights e (ix4 b g i j) = Ideal.div (e (ix4 b g i j)) (∑ l, e (ix4 b g i l)) := by
  pointwise [weights, keptCol]
  rw [kept_apply]
  rfl

/-- The attended values, read at an index. -/
theorem attended_apply (w : FVec Ideal S8x32x512x512 .f32) (b : Fin 8) (i : Fin 512) (n : Fin 2048) :
    attended v w (ix3 b i n) = ∑ j, w (ix4 b ⟨n.val / 64, by omega⟩ i j) * v (ix4 b j ⟨n.val / 64, by omega⟩ ⟨n.val % 64, by omega⟩) := by
  pointwise [attended]
  exact Finset.sum_congr rfl fun j _ => mul_comm _ _

/-- The reference's result is the layer. -/
theorem result_apply (b : Fin 8) (i : Fin 512) (o : Fin 768) :
    result x wq k v wo (ix3 b i o) = layer (arrays x wq k v wo) b i o := by
  pointwise [result]
  unfold layer
  refine Finset.sum_congr rfl fun n _ => ?_
  rw [attended_apply]
  unfold context head
  refine congrArg (· * wo (ix2 n o)) (Finset.sum_congr rfl fun j _ => ?_)
  rw [weights_apply]
  simp only [exps_apply, scores_apply, queries_apply x wq k v wo]
  rfl

end Cert.ReferenceIdeal.Attn
end
-- ==== Proof.Equation.lean ====
/- The kernel's results are the reference's, block by block: where each device's arguments are its parts of the reference's,
   its result is its two batches of the reference's result. -/
module

public import proofs.«01_k».proof.Proof.Host
public import proofs.«01_k».proof.Proof.Heads
public import proofs.«01_k».proof.Proof.RefValue
public import Idealize.ShloMosaic.Lib.LayoutAt

@[expose] public section

set_option maxRecDepth 16384

noncomputable section

namespace Cert.KernelIdeal.Attn

open Idealize.ShloMosaic Idealize.ShloMosaic.TcCoe Idealize.ShloMosaic.Pointwise
open Cert.KernelIdeal Cert.Attention
open Cert.ReferenceIdeal.Attn (arrays result result_apply)

/-! ## The devices' parts, read at an index -/

/-- A device's part of an array of eight batches is its two batches. -/
theorem rowsPart (c : Fin 4) (x : FVec Ideal ⟨3, ![8, 512, 768]⟩ .f32) (b : Fin 2) (i : Fin 512) (o : Fin 768) :
    Layout.block ⟨3, ![2, 512, 768]⟩ ⟨3, ![8, 512, 768]⟩ 0 4 c x (by decide) (ix3 b i o) = x (ix3 (batch c b) i o) := by
  refine congrArg x (Layout.idx_ext fun a => ?_)
  rw [Layout.Tiles.idx_val]
  fin_cases a
  · exact congrArg (· + b.val) (Nat.mul_comm c.val 2)
  · rfl
  · rfl

/-- A device's part of the query weights is its 512 columns. -/
theorem colsPart (c : Fin 4) (x : FVec Ideal ⟨2, ![768, 2048]⟩ .f32) (i : Fin 768) (n : Fin 512) :
    Layout.block ⟨2, ![768, 512]⟩ ⟨2, ![768, 2048]⟩ 1 4 c x (by decide) (ix2 i n) = x (ix2 i (colAt c n)) := by
  refine congrArg x (Layout.idx_ext fun a => ?_)
  rw [Layout.Tiles.idx_val]
  fin_cases a
  · rfl
  · exact congrArg (· + n.val) (Nat.mul_comm c.val 512)

/-- A device's part of the output weights is its 512 rows. -/
theorem linesPart (c : Fin 4) (x : FVec Ideal ⟨2, ![2048, 768]⟩ .f32) (n : Fin 512) (o : Fin 768) :
    Layout.block ⟨2, ![512, 768]⟩ ⟨2, ![2048, 768]⟩ 0 4 c x (by decide) (ix2 n o) = x (ix2 (colAt c n) o) := by
  refine congrArg x (Layout.idx_ext fun a => ?_)
  rw [Layout.Tiles.idx_val]
  fin_cases a
  · exact congrArg (· + n.val) (Nat.mul_comm c.val 512)
  · rfl

/-! ## One phase is one group of heads -/

variable [Facts]
variable (x : FVec Ideal ⟨3, ![8, 512, 768]⟩ .f32) (wq : FVec Ideal ⟨2, ![768, 2048]⟩ .f32) (k v : FVec Ideal ⟨4, ![8, 512, 32, 64]⟩ .f32)
  (wo : FVec Ideal ⟨2, ![2048, 768]⟩ .f32)

/-- A phase whose weights are those of group `src c h` adds what that group adds. -/
theorem part_share (c : Dev nD) (h : Fin 4) (b : Fin 2) (i : Fin 512) (o : Fin 768) (s : Fin 4) (hs : src c h = s) :
    part c h (byHead (starts c) k) (byHead (starts c) v)
      (pair (F := Ideal) (Layout.block ⟨2, ![768, 512]⟩ ⟨2, ![768, 2048]⟩ 1 4 s wq (by decide)) (Layout.block ⟨2, ![512, 768]⟩ ⟨2, ![2048, 768]⟩ 0 4 s wo (by decide)))
      (Layout.block ⟨3, ![2, 512, 768]⟩ ⟨3, ![8, 512, 768]⟩ 0 4 c x (by decide)) b i o
      = share (arrays x wq k v wo) (batch c b) i o s := by
  unfold part share context query
  refine Finset.sum_congr rfl fun n _ => ?_
  have hn : headNo c h b ⟨n.val / 64, by omega⟩ = (⟨32 * b.val + 8 * s.val + n.val / 64, by omega⟩ : Fin 64) := by
    subst hs
    rfl
  have hq : ∀ f : Fin 64, (∑ m : Fin 768, Layout.block ⟨3, ![2, 512, 768]⟩ ⟨3, ![8, 512, 768]⟩ 0 4 c x (by decide) (ix3 b i m)
      * pair (F := Ideal) (Layout.block ⟨2, ![768, 512]⟩ ⟨2, ![768, 2048]⟩ 1 4 s wq (by decide)) (Layout.block ⟨2, ![512, 768]⟩ ⟨2, ![2048, 768]⟩ 0 4 s wo (by decide))
        (ix3 0 m ⟨64 * (n.val / 64) + f.val, by omega⟩))
      = ∑ m, x (ix3 (batch c b) i m) * wq (ix2 m (col (headAt s ⟨n.val / 64, by omega⟩) f)) := fun f =>
    Finset.sum_congr rfl fun m _ => by
      rw [pair_fst, rowsPart, colsPart]
      refine congrArg (fun n => x (ix3 (batch c b) i m) * wq (ix2 m n)) (Fin.ext ?_)
      show 512 * s.val + (64 * (n.val / 64) + f.val) = 64 * (8 * s.val + n.val / 64) + f.val
      omega
  have hk : ∀ (y : FVec Ideal ⟨4, ![8, 512, 32, 64]⟩ .f32) (j : Fin 512) (f : Fin 64),
      byHead (F := Ideal) (starts c) y (ix3 (headNo c h b ⟨n.val / 64, by omega⟩) j f) = y (ix4 (batch c b) j (headAt s ⟨n.val / 64, by omega⟩) f) := fun y j f => by
    rw [hn, byHead_apply (F := Ideal)]
    refine congrArg₂ (fun p g => y (ix4 p j g f)) (congrArg (batch c) (Fin.ext ?_)) (Fin.ext ?_)
    · show (32 * b.val + 8 * s.val + n.val / 64) / 32 = b.val
      omega
    · show (32 * b.val + 8 * s.val + n.val / 64) % 32 = 8 * s.val + n.val / 64
      omega
  rw [pair_snd, linesPart]
  simp only [hq, hk]
  rfl

/-- Round the ring, a device meets every group once. -/
theorem src_bijective (c : Dev nD) : Function.Bijective (src c : Fin 4 → Fin 4) := by
  revert c
  decide

/-- A device whose arguments are its parts of the reference's computes its two batches of the reference's result. -/
theorem outV_eq (m : (ℓ : Loc nD τ sig) → Buf (Elt Ideal) ℓ)
    (hx : ∀ c : Dev nD, m ((c.tc : Thread nD τ).loc main_arg0) = Layout.block ⟨3, ![2, 512, 768]⟩ ⟨3, ![8, 512, 768]⟩ 0 4 c x (by decide))
    (hq : ∀ c : Dev nD, m ((c.tc : Thread nD τ).loc main_arg1) = Layout.block ⟨2, ![768, 512]⟩ ⟨2, ![768, 2048]⟩ 1 4 c wq (by decide))
    (hk : ∀ c : Dev nD, m ((c.tc : Thread nD τ).loc main_arg2) = k)
    (hv : ∀ c : Dev nD, m ((c.tc : Thread nD τ).loc main_arg3) = v)
    (ho : ∀ c : Dev nD, m ((c.tc : Thread nD τ).loc main_arg4) = Layout.block ⟨2, ![512, 768]⟩ ⟨2, ![2048, 768]⟩ 0 4 c wo (by decide))
    (c : Dev nD) :
    outV (VH m) c = Layout.block ⟨3, ![2, 512, 768]⟩ ⟨3, ![8, 512, 768]⟩ 0 4 c (result x wq k v wo) (by decide) := by
  have hX : inX (VH m) c = Layout.block ⟨3, ![2, 512, 768]⟩ ⟨3, ![8, 512, 768]⟩ 0 4 c x (by decide) := (rows_eq m c).trans (hx c)
  have hK : inK (VH m) c = byHead (starts c) k := (keys_eq m c).trans (congrArg (byHead (starts c)) (hk c))
  have hV : inV (VH m) c = byHead (starts c) v := (values_eq m c).trans (congrArg (byHead (starts c)) (hv c))
  have hW : ∀ d, inW (VH m) d = pair (F := Ideal) (Layout.block ⟨2, ![768, 512]⟩ ⟨2, ![768, 2048]⟩ 1 4 d wq (by decide))
      (Layout.block ⟨2, ![512, 768]⟩ ⟨2, ![2048, 768]⟩ 0 4 d wo (by decide)) := fun d =>
    (weights_eq m d).trans (congrArg₂ pair (hq d) (ho d))
  unfold outV
  rw [hX, hK, hV]
  funext i
  obtain ⟨b, i, o, rfl⟩ : ∃ (b : Fin 2) (r : Fin 512) (o : Fin 768), i = ix3 b r o := ⟨i 0, i 1, i 2, by funext a; fin_cases a <;> rfl⟩
  rw [outOf_apply, rowsPart, result_apply, layer_eq]
  refine Eq.trans (Finset.sum_congr rfl fun h _ => ?_) ((src_bijective c).sum_comp (share (arrays x wq k v wo) (batch c b) i o))
  rw [hW]
  exact part_share x wq k v wo c h b i o (src c h) rfl

end Cert.KernelIdeal.Attn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Printed.Run
public import proofs.«01_k».proof.Proof.Equation
public import Idealize.ShloMosaic.Adequacy
public import Idealize.ShloMosaic.Init

@[expose] public section

noncomputable section

namespace Cert.Proof

open Idealize.ShloMosaic Idealize.SL.Sem

/-- The printed kernel terminates, leaves its arguments unchanged and every counter at zero. -/
theorem frame_printed : Cert.quiescent_Kernel (hKernel := Cert.Kernel.Gen.facts) := fun m g _ =>
  (θ_run _ _ _).mono (fun _ h => ⟨fun c => (h.1 c).2, h.2⟩) (Cert.Kernel.Attn.run m g)

/-- The idealized kernel terminates, leaves its arguments unchanged and every counter at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Attn.run m g)

/-- The reference terminates and leaves its arguments unchanged; it has no semaphore. -/
theorem frame_reference : Cert.quiescent_ReferenceIdeal (hReferenceIdeal := Cert.ReferenceIdeal.Gen.facts) := fun m g _ =>
  (θ_run _ _ _).mono (fun _ h => ⟨fun c => (h c).2, funext fun s => (nomatch s.2)⟩) (Cert.ReferenceIdeal.Value.run m g)

/-- On the reals, from arguments that are the devices' parts of the reference's, every device ends with its two batches of the
    result that the reference ends with. -/
theorem equal_results : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Value.res_main_v44 m' 0,
    (θ_run _ _ _).mono (fun _ hr c => ⟨(hr.1 c).1.trans ((Cert.KernelIdeal.Attn.outV_eq _ _ _ _ _ m (fun d => (h d).1) (fun d => (h d).2.1)
        (fun d => (h d).2.2.1) (fun d => (h d).2.2.2.1) (fun d => (h d).2.2.2.2) c).trans
        (congrArg (fun v => Layout.block ⟨3, ![2, 512, 768]⟩ ⟨3, ![8, 512, 768]⟩ 0 4 c v (by decide)) (Cert.ReferenceIdeal.Attn.res_eq m' 0).symm)),
      (hr.1 c).2⟩) (Cert.KernelIdeal.Attn.run m g),
    (θ_run _ _ _).mono (fun _ hr => hr 0) (Cert.ReferenceIdeal.Value.run m' g')⟩

/-- Every claim of the certificate. -/
theorem claim : Cert.Claim := ⟨Cert.Kernel.Gen.facts, Cert.KernelIdeal.Gen.facts, Cert.ReferenceIdeal.Gen.facts,
  frame_printed, frame_ideal, frame_reference, trivial, equal_results⟩

end Cert.Proof

end
